-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![512, 1024]⟩ ⟨2, ![1024, 1024]⟩ (Layout.meshBlock [2, 2, 2] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![1024, 512]⟩ ⟨2, ![1024, 1024]⟩ (Layout.meshBlock [2, 2, 2] ![[], [1]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S512x1024 : Shape := ⟨2, ![512, 1024]⟩
abbrev S1024x512 : Shape := ⟨2, ![1024, 512]⟩
abbrev S512x512 : Shape := ⟨2, ![512, 512]⟩
abbrev S4 : Shape := ⟨1, ![4]⟩
abbrev S_ : Shape := ⟨0, ![]⟩
abbrev S1 : Shape := ⟨1, ![1]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1024x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v9 : BitVec 1 := Scalar.cmpi .eq v5 c0_i32
  let v10 : BitVec 32 := Scalar.extui v9
  let c0_i32_3 : BitVec 32 := 0#32
  let v11 : BitVec 1 := Scalar.cmpi .ne v10 c0_i32_3
  v11

def k0_dev1 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v33 : BitVec 32 := Scalar.muli v2 c4_i32_25
  let v34 : BitVec 32 := Scalar.addi c0_i32_26 v33
  let c1_i32_24 : BitVec 32 := 1#32
  let c2_i32_27 : BitVec 32 := 2#32
  let v35 : BitVec 32 := Scalar.muli c1_i32_24 c2_i32_27
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v37 : BitVec 32 := Scalar.muli v8 c1_i32_28
  let v38 : BitVec 32 := Scalar.addi v36 v37
  v38.toNat
def k0_dev2 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v48 : BitVec 32 := Scalar.muli v2 c4_i32_41
  let v49 : BitVec 32 := Scalar.addi c0_i32_42 v48
  let c1_i32_40 : BitVec 32 := 1#32
  let c2_i32_43 : BitVec 32 := 2#32
  let v50 : BitVec 32 := Scalar.muli c1_i32_40 c2_i32_43
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v52 : BitVec 32 := Scalar.muli v8 c1_i32_44
  let v53 : BitVec 32 := Scalar.addi v51 v52
  v53.toNat
def k0_dev3 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v69 : BitVec 32 := Scalar.muli v2 c4_i32_60
  let v70 : BitVec 32 := Scalar.addi c0_i32_61 v69
  let c1_i32_59 : BitVec 32 := 1#32
  let c2_i32_62 : BitVec 32 := 2#32
  let v71 : BitVec 32 := Scalar.muli c1_i32_59 c2_i32_62
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v73 : BitVec 32 := Scalar.muli v8 c1_i32_63
  let v74 : BitVec 32 := Scalar.addi v72 v73
  v74.toNat
def k0_dev4 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v90 : BitVec 32 := Scalar.muli v2 c4_i32_79
  let v91 : BitVec 32 := Scalar.addi c0_i32_80 v90
  let c1_i32_78 : BitVec 32 := 1#32
  let c2_i32_81 : BitVec 32 := 2#32
  let v92 : BitVec 32 := Scalar.muli c1_i32_78 c2_i32_81
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v94 : BitVec 32 := Scalar.muli v8 c1_i32_82
  let v95 : BitVec 32 := Scalar.addi v93 v94
  v95.toNat
def k0_dev5 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v111 : BitVec 32 := Scalar.muli v2 c4_i32_98
  let v112 : BitVec 32 := Scalar.addi c0_i32_99 v111
  let c1_i32_97 : BitVec 32 := 1#32
  let c2_i32_100 : BitVec 32 := 2#32
  let v113 : BitVec 32 := Scalar.muli c1_i32_97 c2_i32_100
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v115 : BitVec 32 := Scalar.muli v8 c1_i32_101
  let v116 : BitVec 32 := Scalar.addi v114 v115
  v116.toNat
def k0_cond2 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_4 : BitVec 32 := 1#32
  let v12 : BitVec 1 := Scalar.cmpi .eq v5 c1_i32_4
  let v13 : BitVec 32 := Scalar.extui v12
  let c0_i32_5 : BitVec 32 := 0#32
  let v14 : BitVec 1 := Scalar.cmpi .ne v13 c0_i32_5
  v14

def k0_dev6 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v33 : BitVec 32 := Scalar.muli v2 c4_i32_25
  let v34 : BitVec 32 := Scalar.addi c0_i32_26 v33
  let c0_i32_24 : BitVec 32 := 0#32
  let c2_i32_27 : BitVec 32 := 2#32
  let v35 : BitVec 32 := Scalar.muli c0_i32_24 c2_i32_27
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v37 : BitVec 32 := Scalar.muli v8 c1_i32_28
  let v38 : BitVec 32 := Scalar.addi v36 v37
  v38.toNat
def k0_dev7 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v48 : BitVec 32 := Scalar.muli v2 c4_i32_41
  let v49 : BitVec 32 := Scalar.addi c0_i32_42 v48
  let c0_i32_40 : BitVec 32 := 0#32
  let c2_i32_43 : BitVec 32 := 2#32
  let v50 : BitVec 32 := Scalar.muli c0_i32_40 c2_i32_43
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v52 : BitVec 32 := Scalar.muli v8 c1_i32_44
  let v53 : BitVec 32 := Scalar.addi v51 v52
  v53.toNat
def k0_dev8 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v69 : BitVec 32 := Scalar.muli v2 c4_i32_60
  let v70 : BitVec 32 := Scalar.addi c0_i32_61 v69
  let c0_i32_59 : BitVec 32 := 0#32
  let c2_i32_62 : BitVec 32 := 2#32
  let v71 : BitVec 32 := Scalar.muli c0_i32_59 c2_i32_62
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v73 : BitVec 32 := Scalar.muli v8 c1_i32_63
  let v74 : BitVec 32 := Scalar.addi v72 v73
  v74.toNat
def k0_dev9 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v90 : BitVec 32 := Scalar.muli v2 c4_i32_78
  let v91 : BitVec 32 := Scalar.addi c0_i32_79 v90
  let c0_i32_77 : BitVec 32 := 0#32
  let c2_i32_80 : BitVec 32 := 2#32
  let v92 : BitVec 32 := Scalar.muli c0_i32_77 c2_i32_80
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v94 : BitVec 32 := Scalar.muli v8 c1_i32_81
  let v95 : BitVec 32 := Scalar.addi v93 v94
  v95.toNat
def k0_dev10 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v111 : BitVec 32 := Scalar.muli v2 c4_i32_96
  let v112 : BitVec 32 := Scalar.addi c0_i32_97 v111
  let c0_i32_95 : BitVec 32 := 0#32
  let c2_i32_98 : BitVec 32 := 2#32
  let v113 : BitVec 32 := Scalar.muli c0_i32_95 c2_i32_98
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v115 : BitVec 32 := Scalar.muli v8 c1_i32_99
  let v116 : BitVec 32 := Scalar.addi v114 v115
  v116.toNat
-- ==== Reference.lean ====
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Exchange.lean ====
/-
  The kernel's exchange, written once.

  The kernel prints its body twice: once for the devices at place 0 of the mesh's axis `y` and once
  for those at place 1, with other constant offsets.  This module names the pieces of the arrays
  that the exchange moves, with the place `y` and the chunk `k` as parameters, writes the sequence
  of operations over those names, and proves that either printed branch is that sequence.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.AllToAll

open Idealize.ShloMosaic Idealize.SL.Sem
open Cert.KernelIdeal Cert.KernelIdeal.Gen

variable {F : FTy → Type} [FloatOps F]

/-! ## Places and pieces -/

/-- The rows of chunk `k` of a 512-row array lie inside it. -/
theorem inb_chunk (k : Fin 4) : ∀ a, (![128 * k.val, 0] : Fin 2 → Nat) a + S128x512.size a ≤ S512x512.size a :=
  Rect.inb₂ (show 128 * k.val + 128 ≤ 512 by omega) (show 0 + 512 ≤ 512 by omega)

/-- Chunk `k` of the columns that a device at place `y` sends lies inside its block. -/
theorem inb_give (y : Fin 2) (k : Fin 4) :
    ∀ a, (![128 * k.val, 512 * (1 - y.val)] : Fin 2 → Nat) a + S128x512.size a ≤ S512x1024.size a :=
  Rect.inb₂ (show 128 * k.val + 128 ≤ 512 by omega) (show 512 * (1 - y.val) + 512 ≤ 1024 by omega)

/-- The columns that a device at place `y` keeps lie inside its block. -/
theorem inb_keep (y : Fin 2) :
    ∀ a, (![0, 512 * y.val] : Fin 2 → Nat) a + S512x512.size a ≤ S512x1024.size a :=
  Rect.inb₂ (show 0 + 512 ≤ 512 by omega) (show 512 * y.val + 512 ≤ 1024 by omega)

/-- Chunk `k` of the rows of a result that come from place `y` lies inside the result. -/
theorem inb_land (y : Fin 2) (k : Fin 4) :
    ∀ a, (![512 * y.val + 128 * k.val, 0] : Fin 2 → Nat) a + S128x512.size a ≤ S1024x512.size a :=
  Rect.inb₂ (show 512 * y.val + 128 * k.val + 128 ≤ 1024 by omega) (show 0 + 512 ≤ 512 by omega)

/-- The rows of a result that come from place `y` lie inside the result. -/
theorem inb_half (y : Fin 2) :
    ∀ a, (![512 * y.val, 0] : Fin 2 → Nat) a + S512x512.size a ≤ S1024x512.size a :=
  Rect.inb₂ (show 512 * y.val + 512 ≤ 1024 by omega) (show 0 + 512 ≤ 512 by omega)

/-- Semaphore `k` of an array of four lies inside it. -/
theorem inb_sem (k : Fin 4) : ∀ a, (![k.val] : Fin 1 → Nat) a + S1.size a ≤ S4.size a := by
  intro a; obtain rfl : a = 0 := Subsingleton.elim _ _; show k.val + 1 ≤ 4; omega

/-- Rows `128 k … 128 k + 127` of a 512 by 512 array. -/
abbrev chunkRect (k : Fin 4) : Rect S512x512 := Rect.unit (s := S512x512) ![128 * k.val, 0] S128x512.size (inb_chunk k)
/-- All of a 512 by 512 array. -/
abbrev allRect : Rect S512x512 := Rect.unit (s := S512x512) ![0, 0] S512x512.size inb_S512x512_S512x512_0_0
/-- Chunk `k` of the half of its block that a device at place `y` sends: the other place's columns. -/
abbrev giveRect (y : Fin 2) (k : Fin 4) : Rect S512x1024 :=
  Rect.unit (s := S512x1024) ![128 * k.val, 512 * (1 - y.val)] S128x512.size (inb_give y k)
/-- The half of its block that a device at place `y` keeps: its own columns. -/
abbrev keepRect (y : Fin 2) : Rect S512x1024 :=
  Rect.unit (s := S512x1024) ![0, 512 * y.val] S512x512.size (inb_keep y)
/-- Chunk `k` of the rows of a result that come from place `y`. -/
abbrev landRect (y : Fin 2) (k : Fin 4) : Rect S1024x512 :=
  Rect.unit (s := S1024x512) ![512 * y.val + 128 * k.val, 0] S128x512.size (inb_land y k)
/-- The rows of a result that come from place `y`. -/
abbrev halfRect (y : Fin 2) : Rect S1024x512 :=
  Rect.unit (s := S1024x512) ![512 * y.val, 0] S512x512.size (inb_half y)

/-- The argument, the result and the four scratch arrays. -/
abbrev argM : Memref sig .tc .hbm S512x1024 .f32 := Memref.whole main_arg0
abbrev outM : Memref sig .tc .hbm S1024x512 .bf16 := Memref.whole main_v1
abbrev giveM : Memref sig .tc .vmem S512x512 .f32 := Memref.whole cc0_scratch0
abbrev keepM : Memref sig .tc .vmem S512x512 .f32 := Memref.whole cc0_scratch1
abbrev sendM : Memref sig .tc .vmem S512x512 .bf16 := Memref.whole cc0_scratch2
abbrev ownM : Memref sig .tc .vmem S512x512 .bf16 := Memref.whole cc0_scratch3

/-- The pieces as the transfers name them. -/
abbrev argGive (y : Fin 2) (k : Fin 4) : Memref sig .tc .hbm S128x512 .f32 := argM.slice (giveRect y k) (fun _ => rfl)
abbrev argKeep (y : Fin 2) : Memref sig .tc .hbm S512x512 .f32 := argM.slice (keepRect y) (fun _ => rfl)
abbrev giveC (k : Fin 4) : Memref sig .tc .vmem S128x512 .f32 := giveM.slice (chunkRect k) (fun _ => rfl)
abbrev sendC (k : Fin 4) : Memref sig .tc .vmem S128x512 .bf16 := sendM.slice (chunkRect k) (fun _ => rfl)
abbrev outLand (y : Fin 2) (k : Fin 4) : Memref sig .tc .hbm S128x512 .bf16 := outM.slice (landRect y k) (fun _ => rfl)
abbrev outHalf (y : Fin 2) : Memref sig .tc .hbm S512x512 .bf16 := outM.slice (halfRect y) (fun _ => rfl)

/-- The semaphores: of the copies of the chunks into scratch, of the copy of the kept half into
    scratch, of the kept half's copy out, of the sends' departures, of their arrivals, and the
    barrier. -/
abbrev inSem (k : Fin 4) : DmaSem sig :=
  ((cc0_scratch4.slice (Rect.unit (s := S4) ![k.val] S1.size (inb_sem k))).squeeze S_ squeezes_S1_S_).sem
abbrev keepSem : DmaSem sig := cc0_scratch5.sem
abbrev ownSem : DmaSem sig := cc0_scratch6.sem
abbrev sendSem (k : Fin 4) : DmaSem sig :=
  ((cc0_scratch7.slice (Rect.unit (s := S4) ![k.val] S1.size (inb_sem k))).squeeze S_ squeezes_S1_S_).sem
abbrev recvSem (k : Fin 4) : DmaSem sig :=
  ((cc0_scratch8.slice (Rect.unit (s := S4) ![k.val] S1.size (inb_sem k))).squeeze S_ squeezes_S1_S_).sem
abbrev barSem : Sem sig := (SemArray.scalar (sig.barrier 0 rfl) : Sems sig S_).sem

/-- A chunk's rows are whole packed rows of the `bf16` scratch array, -/
theorem packed_chunk (k : Fin 4) : (chunkRect k).PackedRows (EltTy.packing .bf16) := by revert k; decide
/-- and whole words of it, -/
theorem words_chunk (k : Fin 4) : (chunkRect k).WholeWords (EltTy.packing .bf16) := by revert k; decide
/-- as a chunk and a half of the result are whole words of the result. -/
theorem words_land (y : Fin 2) (k : Fin 4) : (landRect y k).WholeWords (EltTy.packing .bf16) := by revert y k; decide
theorem words_half (y : Fin 2) : (halfRect y).WholeWords (EltTy.packing .bf16) := by revert y; decide

theorem exact_sendC (k : Fin 4) : (sendC k).view.WordExact :=
  (Memref.isWhole_whole cc0_scratch2).wordExact_slice rfl _ (words_chunk k)
theorem exact_outLand (y : Fin 2) (k : Fin 4) : (outLand y k).view.WordExact :=
  (Memref.isWhole_whole main_v1).wordExact_slice rfl _ (words_land y k)
theorem exact_outHalf (y : Fin 2) : (outHalf y).view.WordExact :=
  (Memref.isWhole_whole main_v1).wordExact_slice rfl _ (words_half y)

/-! ## The sequence -/

/-- The programs of a core of this kernel. -/
abbrev P (F : FTy → Type) := Prog (TpuEff nD τ sig (Elt F) Λ₀ .tc) PUnit

/-- Start the copy of chunk `k` of the columns to send into scratch. -/
def startIn (y : Fin 2) (k : Fin 4) : P F :=
  Prog.lift (.enqueueDma (argGive y k) (.here (giveC k)) (.dma (inSem k)) (View.wordExact_bits rfl)
    (View.wordExact_bits rfl) ⟨Or.inl rfl, trivial⟩)

/-- Start the copy of the kept columns into scratch. -/
def startKeep (y : Fin 2) : P F :=
  Prog.lift (.enqueueDma (argKeep y) (.here keepM) (.dma keepSem) (View.wordExact_bits rfl)
    (Memref.isWhole_whole cc0_scratch1).wordExact ⟨Or.inl rfl, trivial⟩)

/-- Tell the peer that this device has started. -/
def tell (p : Dev nD) : P F := semSignalWord p barSem 1#32

/-- Wait for the peer to have started. -/
def hear : P F := semWaitWord barSem 1#32

/-- Chunk `k`: wait for its copy, round it into the send buffer and send it to the peer. -/
def pass (y : Fin 2) (p : Dev nD) (k : Fin 4) : P F := do
  Prog.lift (.waitDma2 (inSem k) (argGive y k) (giveC k) (View.wordExact_bits rfl) (View.wordExact_bits rfl))
  let v : Vec F S128x512 .f32 ← Prog.lift (.load giveM (chunkRect k).toLoadRect (View.loadsAt_vmem h_S128x512))
  let _u : Vec F S128x512 .bf16 ← Prog.lift (.load sendM (chunkRect k).toLoadRect (View.loadsAt_vmem h_S128x512))
  Prog.lift (.store sendM (chunkRect k) (k0_pay1 v) Finset.univ
    (View.stores_vmem h_S128x512 ((Memref.isWhole_whole cc0_scratch2).storeExact_slice rfl _ (packed_chunk k)) (fun _ => rfl))
    (.inl rfl))
  Prog.lift (.enqueueDma (sendC k) (.remote (Dev.tc p) (outLand y k) (.dma (sendSem k))) (.dma (recvSem k))
    (exact_sendC k) (exact_outLand y k) ⟨⟨rfl, Or.inl rfl⟩, trivial⟩)

/-- The kept half: wait for its copy, round it, start its copy into the result, wait for that. -/
def place (y : Fin 2) : P F := do
  Prog.lift (.waitDma2 keepSem (argKeep y) keepM (View.wordExact_bits rfl) (Memref.isWhole_whole cc0_scratch1).wordExact)
  let v : Vec F S512x512 .f32 ← Prog.lift (.load keepM allRect.toLoadRect (View.loadsAt_vmem h_S512x512))
  let _u : Vec F S512x512 .bf16 ← Prog.lift (.load ownM allRect.toLoadRect (View.loadsAt_vmem h_S512x512))
  Prog.lift (.store ownM allRect (k0_pay6 v) Finset.univ
    (View.stores_vmem h_S512x512 ((Memref.isWhole_whole cc0_scratch3).storeExact_slice rfl _ packedbf16_S512x512_S512x512_0_0) (fun _ => rfl))
    (.inl rfl))
  Prog.lift (.enqueueDma ownM (.here (outHalf y)) (.dma ownSem) (Memref.isWhole_whole cc0_scratch3).wordExact
    (exact_outHalf y) ⟨Or.inl rfl, trivial⟩)
  Prog.lift (.waitDma2 ownSem ownM (outHalf y) (Memref.isWhole_whole cc0_scratch3).wordExact (exact_outHalf y))

/-- Wait for chunk `k` to have left and for the peer's chunk `k` to have arrived. -/
def settle (y : Fin 2) (k : Fin 4) : P F := do
  Prog.lift (.waitDma2 (sendSem k) (outLand y k) (sendC k) (exact_outLand y k) (exact_sendC k))
  Prog.lift (.waitDma2 (recvSem k) (sendC k) (outLand y k) (exact_sendC k) (exact_outLand y k))

/-- The four chunks. -/
abbrev c0 : Fin 4 := ⟨0, by decide⟩
abbrev c1 : Fin 4 := ⟨1, by decide⟩
abbrev c2 : Fin 4 := ⟨2, by decide⟩
abbrev c3 : Fin 4 := ⟨3, by decide⟩

/-- The whole exchange of a device at place `y`, `p` the device it tells and `q k` the one it sends
    chunk `k` to. -/
def exchange (y : Fin 2) (p : Dev nD) (q0 q1 q2 q3 : Dev nD) : P F := do
  startIn y c0; startIn y c1; startIn y c2; startIn y c3
  startKeep y
  tell p
  hear
  pass y q0 c0; pass y q1 c1; pass y q2 c2; pass y q3 c3
  place y
  settle y c0; settle y c1; settle y c2; settle y c3

/-! ## The printed body is the sequence -/

/-- The place of device `d` on the mesh's axis `y`. -/
def yOf (d : Dev nD) : Fin 2 := ⟨d.val / 2 % 2, Nat.mod_lt _ (by decide)⟩

/-- The other device with `d`'s places on the axes `x` and `z`. -/
def peer (d : Dev nD) : Dev nD := ⟨4 * (d.val / 4) + 2 * (1 - d.val / 2 % 2) + d.val % 2, by
  have h : d.val < 8 := d.isLt; show _ < 8; omega⟩

/-- The first branch is that of place 0, the second that of place 1. -/
theorem cond_low (d : Dev nD) : k0_cond1 d = 1#1 ↔ d.val / 2 % 2 = 0 := by revert d; decide +kernel
theorem cond_high (d : Dev nD) : k0_cond2 d = 1#1 ↔ d.val / 2 % 2 = 1 := by revert d; decide +kernel

theorem yOf_low {d : Dev nD} (h : d.val / 2 % 2 = 0) : yOf d = ⟨0, by decide⟩ := Fin.ext h
theorem yOf_high {d : Dev nD} (h : d.val / 2 % 2 = 1) : yOf d = ⟨1, by decide⟩ := Fin.ext h

/-- A device number as a branch prints it is the peer's. -/
theorem eq_peer_low {d : Dev nD} (h : d.val / 2 % 2 = 0) {n : ℕ} (hn : n < nD) (e : n = 4 * (d.val / 4) + d.val % 2 + 2) :
    (⟨n, hn⟩ : Dev nD) = peer d := Fin.ext (show n = 4 * (d.val / 4) + 2 * (1 - d.val / 2 % 2) + d.val % 2 by omega)
theorem eq_peer_high {d : Dev nD} (h : d.val / 2 % 2 = 1) {n : ℕ} (hn : n < nD) (e : n = 4 * (d.val / 4) + d.val % 2) :
    (⟨n, hn⟩ : Dev nD) = peer d := Fin.ext (show n = 4 * (d.val / 4) + 2 * (1 - d.val / 2 % 2) + d.val % 2 by omega)

set_option maxRecDepth 65536 in
/-- The printed body reads the device's number and runs the exchange of its place with its peer. -/
theorem body_eq (t : Fin cfg0.N) : bodyAt0 (F := F) t =
    (Prog.lift .deviceId >>= fun d => exchange (yOf d) (peer d) (peer d) (peer d) (peer d) (peer d)) := by
  unfold bodyAt0
  rw [cc0_body_eq_skeleton]
  unfold cc0_body_skel
  refine congrArg (fun k => (Prog.lift TpuEff.deviceId >>= k : P F)) (funext fun d => ?_)
  by_cases h1 : k0_cond1 d = 1#1
  · have hy := (cond_low d).mp h1
    have h2 : ¬ k0_cond2 d = 1#1 := fun h => by have := (cond_high d).mp h; omega
    rw [yOf_low hy]
    simp only [dif_pos h1, dif_neg h2]
    refine Eq.trans ?_ (congr (congr (congr (congr (congrArg (exchange (F := F) ⟨0, by decide⟩)
      (eq_peer_low hy (k0_dev1_lt d h1) (k0_dev1_eq d))) (eq_peer_low hy (k0_dev2_lt d h1) (k0_dev2_eq d)))
      (eq_peer_low hy (k0_dev3_lt d h1) (k0_dev3_eq d))) (eq_peer_low hy (k0_dev4_lt d h1) (k0_dev4_eq d)))
      (eq_peer_low hy (k0_dev5_lt d h1) (k0_dev5_eq d)))
    rfl
  · have hy : d.val / 2 % 2 = 1 := by have := mt (cond_low d).mpr h1; omega
    have h2 := (cond_high d).mpr hy
    rw [yOf_high hy]
    simp only [dif_neg h1, dif_pos h2]
    refine Eq.trans ?_ (congr (congr (congr (congr (congrArg (exchange (F := F) ⟨1, by decide⟩)
      (eq_peer_high hy (k0_dev6_lt d h2) (k0_dev6_eq d))) (eq_peer_high hy (k0_dev7_lt d h2) (k0_dev7_eq d)))
      (eq_peer_high hy (k0_dev8_lt d h2) (k0_dev8_eq d))) (eq_peer_high hy (k0_dev9_lt d h2) (k0_dev9_eq d)))
      (eq_peer_high hy (k0_dev10_lt d h2) (k0_dev10_eq d)))
    rfl

end Cert.AllToAll
-- ==== Proof.Schedule.lean ====
/-
  The protocol of the exchange.

  Every device has fifteen semaphores, each raised once and waited for once:

  * `fetch k`, `keep`, `own`: its own copies (chunk `k` of the columns to send into scratch, the kept
    columns into scratch, the rounded kept columns into its result).  The device copies and waits
    itself; the landing hands back both ends of the copy.
  * `bar`: the barrier semaphore, raised by one by the peer.  The signal hands over the rows of the
    peer's result that this device will write.
  * `sent k`: the departure of chunk `k`, raised by this device's send; it hands the chunk back.
  * `came k`: the arrival of the peer's chunk `k`, raised by the peer's send; it hands over the rows
    of this device's result holding the peer's chunk, rounded to `bf16`.
-/
module

public import proofs.«01_k».proof.Proof.Exchange
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's copy of the rounds algebra and the exchange's own. -/
abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ)

/-! ## The peer -/

/-- The peer's peer is the device itself; it sits at the other place of the axis. -/
theorem peer_peer (c : Dev nD) : peer (peer c) = c := by
  have h : c.val < 8 := c.isLt
  refine Fin.ext ?_
  show 4 * ((4 * (c.val / 4) + 2 * (1 - c.val / 2 % 2) + c.val % 2) / 4)
    + 2 * (1 - (4 * (c.val / 4) + 2 * (1 - c.val / 2 % 2) + c.val % 2) / 2 % 2)
    + (4 * (c.val / 4) + 2 * (1 - c.val / 2 % 2) + c.val % 2) % 2 = c.val
  omega
theorem yOf_peer (c : Dev nD) : (yOf (peer c)).val = 1 - (yOf c).val := by
  show (4 * (c.val / 4) + 2 * (1 - c.val / 2 % 2) + c.val % 2) / 2 % 2 = 1 - c.val / 2 % 2
  omega

/-- Exchanging every device with its peer. -/
def swap : Dev nD ≃ Dev nD := ⟨peer, peer, peer_peer, peer_peer⟩

/-! ## The cells -/

/-- What a semaphore is for. -/
inductive Job where
  | fetch (k : Fin 4) | keep | own | sent (k : Fin 4) | came (k : Fin 4) | bar
deriving DecidableEq

/-- There are fifteen jobs. -/
instance : Fintype Job where
  elems := (Finset.univ.image Job.fetch ∪ Finset.univ.image Job.sent) ∪ (Finset.univ.image Job.came ∪ {.keep, .own, .bar})
  complete j := by cases j <;> simp

/-- The semaphore of a job. -/
def csem : Job → SemLoc sig
  | .fetch k => .dma (inSem k)
  | .keep => .dma keepSem
  | .own => .dma ownSem
  | .sent k => .dma (sendSem k)
  | .came k => .dma (recvSem k)
  | .bar => .reg barSem

/-- A job's semaphore on a device. -/
abbrev cell (c : Dev nD) (j : Job) : GSem nD τ sig := ((c : Thread nD τ), csem j)

theorem csem_injective : Function.Injective csem := by decide +kernel

open Classical in
/-- The job of a semaphore. -/
def job (s : SemLoc sig) : Job := if h : ∃ j, csem j = s then h.choose else .bar

@[simp] theorem job_csem (j : Job) : job (csem j) = j := by
  have h : ∃ j', csem j' = csem j := ⟨j, rfl⟩
  unfold job
  rw [dif_pos h]
  exact csem_injective h.choose_spec

/-- How much a job's semaphore is raised. -/
def amt : Job → ℕ
  | .fetch _ => (giveC c0).view.dmaCredit
  | .keep => keepM.view.dmaCredit
  | .own => (outHalf 0).view.dmaCredit
  | .sent _ => (sendC c0).view.dmaCredit
  | .came _ => (outLand 0 c0).view.dmaCredit
  | .bar => 1

theorem amt_pos (j : Job) : 0 < amt j := by
  cases j <;> first | exact View.dmaCredit_pos _ (by decide) | exact Nat.one_pos

/-- A chunk weighs the same in the send buffer and in the result. -/
theorem amt_sent (k k' : Fin 4) : amt (.sent k) = amt (.came k') := by revert k k'; decide

/-! ## Contents -/

/-- The argument of device `c` at launch. -/
def argOf (c : Dev nD) : main_arg0.ty.Contents (Elt F) := m ((c : Thread nD τ).loc main_arg0)
/-- Chunk `k` of the columns that device `c` sends, -/
def giveV (c : Dev nD) (k : Fin 4) : Vec F S128x512 .f32 := (argGive (yOf c) k).view.read (Elt F) (argOf m c)
/-- and the columns that it keeps. -/
def keepV (c : Dev nD) : Vec F S512x512 .f32 := (argKeep (yOf c)).view.read (Elt F) (argOf m c)

/-- Device `c` holds the elements of `M` in full, its buffer's contents being `f`. -/
def piece (c : Dev nD) {sp : Space} {s : Shape} {e : EltTy} (M : Memref sig .tc sp s e)
    (f : Buf (Elt F) (M.view.loc (c : Thread nD τ))) : sProp 𝕄 :=
  M.view.loc (c : Thread nD τ) ↦[M.view.set]{fullShare} f

instance piece_storable (c : Dev nD) {sp : Space} {s : Shape} {e : EltTy} (M : Memref sig .tc sp s e) (f) :
    BI.Storable (upEmb : UEmb _ 𝕄) (piece (F := F) c M f) := by unfold piece; infer_instance

/-- Device `c` holds the elements of `M` in full, and they read `X`. -/
abbrev holds (c : Dev nD) {sp : Space} {s : Shape} {e : EltTy} (M : Memref sig .tc sp s e)
    (X : s.Idx → Elt F e) : sProp 𝕄 :=
  owns (Ix := Unit) (Name := ℕ) (U := UU) (Lvl := ℕ) (c : Thread nD τ) M fullShare X

/-- What the one landing on a job's semaphore of device `c` hands over. -/
def pay (c : Dev nD) : Job → sProp 𝕄
  | .fetch k => iprop(holds c (giveC k) (giveV m c k) ∗ piece c (argGive (yOf c) k) (argOf m c))
  | .keep => iprop(holds c keepM (keepV m c) ∗ piece c (argKeep (yOf c)) (argOf m c))
  | .own => iprop(holds c (outHalf (yOf c)) (k0_pay6 (keepV m c)) ∗ ∃ f, piece c ownM f)
  | .sent k => iprop(∃ f, piece c (sendC k) f)
  | .came k => holds c (outLand (yOf (peer c)) k) (k0_pay1 (giveV m (peer c) k))
  | .bar => bigSep Finset.univ fun k : Fin 4 => iprop(∃ f, piece (peer c) (outLand (yOf c) k) f)

instance pay_storable (c : Dev nD) (j : Job) : BI.Storable (upEmb : UEmb _ 𝕄) (pay m c j) := by
  cases j <;> (unfold pay; infer_instance)

/-- The schedule: every semaphore of a job has one round, with one landing. -/
def Rd : Rounds.Schedule (GSem nD τ sig) Unit 𝕄 where
  duties g r := if r = 0 ∧ g.1.2 = .tc then {()} else ∅
  unitless _ := False
  amount g _ _ := amt (job g.2)
  payload g _ _ := pay m g.1.1 (job g.2)
  amount_pos g _ _ _ := amt_pos _

instance Rd_payload_storable (g : GSem nD τ sig) (r : ℕ) (d : Unit) :
    BI.Storable (upEmb : UEmb _ 𝕄) ((Rd (F := F) m).payload g r d) := pay_storable m g.1.1 (job g.2)

section Tables
variable (c : Dev nD) (j : Job)

theorem duties_cell : (Rd (F := F) m).duties (cell c j) 0 = {()} := by
  dsimp only [Rd]; exact if_pos ⟨rfl, rfl⟩
theorem mem_duties : () ∈ (Rd (F := F) m).duties (cell c j) 0 := by rw [duties_cell]; exact Finset.mem_singleton_self _
theorem duties_later (g : GSem nD τ sig) : ∀ r, 1 ≤ r → (Rd (F := F) m).duties g r = ∅ :=
  fun r hr => by dsimp only [Rd]; exact if_neg fun h => by omega
theorem amount_cell : (Rd (F := F) m).amount (cell c j) 0 () = amt j := congrArg amt (job_csem j)
theorem payload_cell : (Rd (F := F) m).payload (cell c j) 0 () = pay m c j := congrArg (pay m c) (job_csem j)
theorem expect_cell : (Rd (F := F) m).expect (cell c j) 0 = amt j := by
  unfold Schedule.expect Schedule.amountOf; rw [duties_cell, Finset.sum_singleton, amount_cell]
theorem rest_cell : bigSep ((Rd (F := F) m).duties (cell c j) 0 \ ∅) (fun d => (Rd (F := F) m).payload (cell c j) 0 d) = pay m c j := by
  rw [Finset.sdiff_empty, duties_cell, bigSep_singleton, payload_cell]

end Tables

/-! ## What a device owes, and the levels -/

/-- The arrivals that device `c` still owes its peer, of the chunks listed. -/
def rem (c : Dev nD) : List (Fin 4) → CellTallies nD τ sig Unit
  | [] => 0
  | k :: l => rem c l + tallyAt (cell (peer c) (.came k)) () (amt (.came k))

/-- The chunks in the order they are sent. -/
abbrev chunks : List (Fin 4) := [c0, c1, c2, c3]

/-- What device `c` owes at launch: the four arrivals and the signal. -/
def O₀ (c : Dev nD) : CellTallies nD τ sig Unit := rem c chunks + tallyAt (cell (peer c) .bar) () 1

/-- Waits are allowed in the order of the levels: own copies, then the barrier, then arrivals. -/
def rank : Job → ℕ
  | .bar => 1
  | .came _ => 2
  | _ => 0
def L (g : GSem nD τ sig) : Finset Unit := if g.1.2 = .tc then {()} else ∅
def lv (g : GSem nD τ sig) (_ : Unit) : ℕ := rank (job g.2)

theorem L_of_ne (g : GSem nD τ sig) (h : g.1.2 ≠ .tc) : L g = ∅ := if_neg h
theorem mem_L (c : Dev nD) (s : SemLoc sig) (u : Unit) : u ∈ L ((c : Thread nD τ), s) := by
  rw [show L ((c : Thread nD τ), s) = {()} from if_pos rfl]; exact Finset.mem_singleton_self _
theorem lv_cell (c : Dev nD) (j : Job) (u : Unit) : lv (cell c j) u = rank j := congrArg rank (job_csem j)

theorem tally_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

/-- Whatever is still owed after the signal is an arrival at the peer. -/
theorem rem_pos {c : Dev nD} {g : GSem nD τ sig} {u : Unit} : ∀ {l : List (Fin 4)}, 0 < rem c l g u → ∃ k, g = cell (peer c) (.came k)
  | [], h => absurd h (Nat.lt_irrefl 0)
  | k :: l, h => by
    rw [show rem c (k :: l) = rem c l + tallyAt (cell (peer c) (.came k)) () (amt (.came k)) from rfl,
      Pi.add_apply, Finsupp.add_apply] at h
    rcases Nat.eq_zero_or_pos (rem c l g u) with h0 | h0
    · exact ⟨k, tally_pos (by rw [h0, Nat.zero_add] at h; exact h)⟩
    · exact rem_pos h0

/-- While arrivals are owed, a device may wait for its own copies and for the barrier. -/
theorem mayWait (c : Dev nD) (j : Job) (hj : rank j < 2) (l : List (Fin 4)) :
    (levAts L lv : sProp 𝕄) ⊢ MayWait (c : Thread nD τ) (csem j) () (rem c l) :=
  MayOwe.of_cut (L := L) (lev := lv) (rank j) (fun p hp => by rw [Finset.mem_singleton.mp hp]; exact mem_L _ _ _)
    (fun g u hg => by obtain ⟨k, rfl⟩ := rem_pos hg; exact mem_L _ _ _)
    (fun p hp => by rw [Finset.mem_singleton.mp hp]; exact (lv_cell c j _).le)
    (fun g u hg => by obtain ⟨k, rfl⟩ := rem_pos hg; rw [lv_cell]; exact hj)

/-- When nothing is owed it may wait for anything. -/
theorem mayWait_nil (c : Dev nD) (j : Job) :
    (levAts L lv : sProp 𝕄) ⊢ MayWait (c : Thread nD τ) (csem j) () (rem c []) := by
  rw [show rem c [] = 0 from rfl, MayWait_zero]; iintro -; iempintro

end Cert.AllToAll
-- ==== Proof.Steps.lean ====
/-
  Each step of the exchange, with what it takes and what it leaves.

  Every theorem is about one step at a symbolic device and, where there is one, a symbolic chunk.
-/
module

public import proofs.«01_k».proof.Proof.Schedule

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Job → ℕ) (c : Dev nD)

abbrev 𝒱₀ : Variants := Variants.none

/-- The weakest precondition of a program of device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Every semaphore of every device keeps the protocol, and none is past its round. -/
def records : sProp 𝕄 :=
  bigSep Finset.univ fun x : Dev nD × Job =>
    iprop(cellInv ER (Rd m) (K x) (cell x.1 x.2) ∗ reached ER (cell x.1 x.2) 0)

instance records_persistent : BI.Persistent (records m K) := by unfold records; infer_instance

theorem record (j : Job) : records m K ⊢ cellInv ER (Rd m) (K (c, j)) (cell c j) ∗ reached ER (cell c j) 0 :=
  BI.bigSep_elim (Φ := fun x : Dev nD × Job => iprop(cellInv ER (Rd m) (K x) (cell x.1 x.2) ∗ reached ER (cell x.1 x.2) 0))
    (Finset.mem_univ (c, j))

/-- Device `c` owes `O`, whatever it has waited for so far. -/
def owing (O : CellTallies nD τ sig Unit) : sProp 𝕄 := iprop(∃ W, owes (c : Thread nD τ) O W)

/-- The right to pay the one landing on a semaphore, to wait for it, and the promise that it comes. -/
abbrev token (c : Dev nD) (j : Job) : sProp 𝕄 := dutyTok ER (cell c j) 0 ()
abbrev turn (c : Dev nD) (j : Job) : sProp 𝕄 := atPos ER (cell c j) 0 ∅ 0
abbrev due (c : Dev nD) (j : Job) : sProp 𝕄 := cred (tallyAt (cell c j) () (amt j))

/-- A wait for a job's semaphore, `l` still owed: its landing's content, and the semaphore at zero for good. -/
theorem wp_await (j : Job) {w : TpuEff nD τ sig (Elt F) Λ₀ .tc PUnit} {n : ℕ}
    (hw : ∀ Q : PUnit → sProp 𝕄, wpE (defs₀ (F := F)) 𝒱₀ (c : Thread nD τ) none Set.univ w Q
      = waitSpec (c : Thread nD τ) Set.univ (csem j) n Q)
    (hn : n = amt j) (l : List (Fin 4)) (hl : rank j < 2 ∨ l = [])
    {α : Type} {k : PUnit → Prog (TpuEff nD τ sig (Elt F) Λ₀ .tc) α} {Q : α → sProp 𝕄} :
    iprop(records m K ∗ levAts L lv ∗ due c j ∗ turn c j ∗ owing c (rem c l))
      ⊢ iprop(((owing c (rem c l) ∗ semVal (cell c j) 0 ∗ pay m c j) -∗ run c (k ⟨⟩) Q) -∗ run c (.op w k) Q) := by
  subst hn
  unfold owing
  iintro ⟨#Hrec, #Hlev, Hc, Hat, ⟨%W, HO⟩⟩ Hk
  ihave Hr := (record m K c j) $$ Hrec
  icases Hr with ⟨#HI, -⟩
  iapply (Rounds.wp_wait_rest_token 𝒱₀ ER (Rd m) (c : Thread nD τ) none (κ := K (c, j)) hw (Set.mem_univ _) ()
      (O := rem c l) (W := W) (R := 0) (m := 0) (T := ∅) (by rw [Nat.zero_add, expect_cell])) $$ [Hc HO Hat]
  · isplitr; · iexact HI
    isplitl [Hc]; · iexact Hc
    isplitl [HO]; · iexact HO
    isplitr
    · rcases hl with h | rfl
      · iapply (mayWait c j h l); iexact Hlev
      · iapply (mayWait_nil c j); iexact Hlev
    iexact Hat
  iintro ⟨HO, Hat, -, Hp⟩
  ihave Hp := (Entails.of_eq (rest_cell m c j)) $$ Hp
  imod (Rounds.cell_close ER (Rd m) (Set.mem_univ (K (c, j))) (fun h => h) (R := 0 + 1) (duties_later m (cell c j))) $$ [Hat] with Hz
  · isplitr; · iexact HI
    iexact Hat
  iapply Hk
  isplitl [HO]; · iexists _; iexact HO
  isplitl [Hz]; · iexact Hz
  iexact Hp

/-- A finished program leaves what holds. -/
theorem run_ret (Q : Unit → sProp 𝕄) : Q ⟨⟩ ⊢ run c (Prog.ret ⟨⟩) Q := by
  unfold run; rw [wp_ret]; iintro H; imodintro; iexact H

/-- Elements just written read what was written. -/
theorem holds_of_write {sp : Space} {s : Shape} {e : EltTy} (M : Memref sig .tc sp s e)
    (f : Buf (Elt F) (M.view.loc (c : Thread nD τ))) (X : s.Idx → Elt F e) :
    piece c M (M.view.write (Elt F) f X Finset.univ) ⊢ holds c M X := by
  unfold piece holds owns
  iintro H
  iexists _
  isplitr
  · ipureintro; exact View.read_write_univ f X
  · iexact H

theorem amount_fetch (k : Fin 4) : (giveC k).view.amount (.dma (inSem k)) = amt (.fetch k) := rfl
theorem amount_keep : keepM.view.amount (.dma (keepSem)) = amt .keep := rfl
theorem amount_own (y : Fin 2) : (outHalf y).view.amount (.dma (ownSem)) = amt .own := rfl
theorem amount_came (y : Fin 2) (k : Fin 4) : (outLand y k).view.amount (.dma (recvSem k)) = amt (.came k) := rfl

/-- A copy of a device's own, onto the semaphore of job `j`. -/
theorem wp_copy_own (j : Job) {sm : SemLoc sig} (hsm : csem j = sm) {sp sp' : Space} {s : Shape} {e : EltTy} {src : Memref sig .tc sp s e} {dst : Memref sig .tc sp' s e}
    {hsrc : src.view.WordExact} {hdst : dst.view.WordExact} {hsem : DmaTarget.Typed (nD := nD) (τ := τ) sp sm (DmaTarget.here (p := (.tc : Proc τ)) dst)}
    (fs : Buf (Elt F) (src.view.loc (c : Thread nD τ))) (hN : dst.view.amount sm = amt j)
    (hpay : holds c dst (src.view.read (Elt F) fs) ∗ piece c src fs ⊢ pay m c j)
    {α : Type} {k : PUnit → Prog (TpuEff nD τ sig (Elt F) Λ₀ .tc) α} (Q : α → sProp 𝕄) :
    iprop((records m K ∗ token c j ∗ piece c src fs ∗ (∃ f, piece c dst f)) ∗ (due c j -∗ run c (k ⟨⟩) Q))
      ⊢ run c (.op (.enqueueDma src (.here dst) sm hsrc hdst hsem) k) Q := by
  subst hsm
  iintro ⟨⟨#Hrec, Htok, Hsrc, ⟨%f, Hdst⟩⟩, Hk⟩
  ihave Hr := (record m K c j) $$ Hrec
  icases Hr with ⟨#HI, #HR⟩
  iapply (Rounds.wp_copy_pointsTo 𝒱₀ ER (Rd m) (c : Thread nD τ) none (κ := K (c, j)) (r := 0) (d := ())
    (q := fullShare) (fs := fs) (fd := f)
    (mem_duties m c j) () (amt j) hN (amount_cell m c j) (by
      rw [payload_cell]
      exact (sep_mono_left (holds_of_write c dst f _)).trans hpay)) $$ [Htok Hsrc Hdst]
  · isplitr; · iexact HI
    isplitl [Hsrc]; · unfold piece; iexact Hsrc
    isplitl [Hdst]; · unfold piece; iexact Hdst
    isplitl [Htok]; · iexact Htok
    iexact HR
  iexact Hk

/-- Starting the copy of chunk `k` into scratch. -/
theorem wp_startIn (k : Fin 4) (Q : Unit → sProp 𝕄) :
    iprop((records m K ∗ token c (.fetch k) ∗ piece c (argGive (yOf c) k) (argOf m c) ∗ (∃ f, piece c (giveC k) f))
      ∗ (due c (.fetch k) -∗ Q ⟨⟩)) ⊢ run c (startIn (yOf c) k) Q := by
  have h : holds c (giveC k) ((argGive (yOf c) k).view.read (Elt F) (argOf m c)) ∗ piece c (argGive (yOf c) k) (argOf m c)
      ⊢ pay m c (.fetch k) := by
    unfold pay giveV; exact Entails.refl _
  exact (sep_mono_right (wand_mono_right (run_ret c Q))).trans <| wp_copy_own m K c (.fetch k) (sm := .dma (inSem k)) rfl (src := argGive (yOf c) k) (dst := giveC k)
    (hsrc := View.wordExact_bits rfl) (hdst := View.wordExact_bits rfl) (hsem := ⟨Or.inl rfl, trivial⟩) (argOf m c) (amount_fetch k) h Q

/-- Starting the copy of the kept columns into scratch. -/
theorem wp_startKeep (Q : Unit → sProp 𝕄) :
    iprop((records m K ∗ token c .keep ∗ piece c (argKeep (yOf c)) (argOf m c) ∗ (∃ f, piece c keepM f))
      ∗ (due c .keep -∗ Q ⟨⟩)) ⊢ run c (startKeep (yOf c)) Q := by
  have h : holds c keepM ((argKeep (yOf c)).view.read (Elt F) (argOf m c)) ∗ piece c (argKeep (yOf c)) (argOf m c)
      ⊢ pay m c .keep := by
    unfold pay keepV; exact Entails.refl _
  exact (sep_mono_right (wand_mono_right (run_ret c Q))).trans <| wp_copy_own m K c .keep (sm := .dma keepSem) rfl (src := argKeep (yOf c)) (dst := keepM)
    (hsrc := View.wordExact_bits rfl) (hdst := (Memref.isWhole_whole cc0_scratch1).wordExact) (hsem := ⟨Or.inl rfl, trivial⟩) (argOf m c) amount_keep h Q

/-- Telling the peer: the signal hands it the rows of this device's result that it will write. -/
theorem wp_tell (l : List (Fin 4)) (Q : Unit → sProp 𝕄) :
    iprop((records m K ∗ token (peer c) .bar ∗ owing c (rem c l + tallyAt (cell (peer c) .bar) () 1)
        ∗ (bigSep Finset.univ fun k : Fin 4 => iprop(∃ f, piece c (outLand (yOf (peer c)) k) f)))
      ∗ (owing c (rem c l) -∗ Q ⟨⟩)) ⊢ run c (tell (peer c)) Q := by
  unfold tell owing
  simp only [semSignalWord, Prog.lift, Prog.bind_op, Prog.bind_ret, Prog.pure_eq_ret]
  iintro ⟨⟨#Hrec, Htok, ⟨%W, HO⟩, Hrows⟩, Hk⟩
  ihave Hr := (record m K (peer c) .bar) $$ Hrec
  icases Hr with ⟨#HI, #HR⟩
  iapply (Rounds.wp_signal 𝒱₀ ER (Rd m) (c : Thread nD τ) none (dst := (peer c : Thread nD τ)) (κ := K (peer c, .bar))
      (d := ()) (mem_duties m (peer c) .bar) ((amount_cell m (peer c) .bar).trans (by decide)) () (rem c l) rfl)
    $$ [HO Htok Hrows]
  · isplitr; · iexact HI
    isplitl [HO]; · iexact HO
    isplitl [Htok]; · iexact Htok
    isplitl [Hrows]
    · rw [show (Rd (F := F) m).payload ((peer c : Thread nD τ), .reg barSem) 0 () = pay m (peer c) .bar from payload_cell m (peer c) .bar]
      unfold pay; rw [peer_peer]; iexact Hrows
    iexact HR
  iintro HO
  iapply (run_ret c Q)
  iapply Hk; iexists W; iexact HO

/-- Hearing from the peer: the rows of its result that this device will write. -/
theorem wp_hear (l : List (Fin 4)) (Q : Unit → sProp 𝕄) :
    iprop((records m K ∗ levAts L lv ∗ due c .bar ∗ turn c .bar ∗ owing c (rem c l))
      ∗ ((owing c (rem c l) ∗ semVal (cell c .bar) 0 ∗ pay m c .bar) -∗ Q ⟨⟩)) ⊢ run c hear Q := by
  unfold hear
  simp only [semWaitWord, Prog.lift, Prog.bind_op, Prog.bind_ret, Prog.pure_eq_ret]
  iintro ⟨H, Hk⟩
  iapply (wp_await m K c .bar (wpE_semWait_eq 𝒱₀ (c : Thread nD τ) none Set.univ) (by decide) l (Or.inl (by decide))) $$ H
  iintro H
  iapply (run_ret c Q)
  iapply Hk; iexact H

/-- Waiting for one of the device's transfers. -/
theorem wp_arrive (j : Job) {sp sp' : Space} {s s' : Shape} {e e' : EltTy} {sem : DmaSem sig} (hsem : csem j = .dma sem)
    {src : Memref sig .tc sp s e} {dst : Memref sig .tc sp' s' e'} {hsrc : src.view.WordExact} {hdst : dst.view.WordExact}
    (hn : dst.view.dmaCredit = amt j) (l : List (Fin 4)) (hl : rank j < 2 ∨ l = [])
    {α : Type} {k : PUnit → Prog (TpuEff nD τ sig (Elt F) Λ₀ .tc) α} {Q : α → sProp 𝕄} :
    iprop(records m K ∗ levAts L lv ∗ due c j ∗ turn c j ∗ owing c (rem c l))
      ⊢ iprop(((owing c (rem c l) ∗ semVal (cell c j) 0 ∗ pay m c j) -∗ run c (k ⟨⟩) Q)
        -∗ run c (.op (.waitDma2 sem src dst hsrc hdst) k) Q) :=
  wp_await m K c j (fun Q => by rw [hsem]; exact wpE_waitDma2_eq 𝒱₀ (c : Thread nD τ) none Set.univ Q) hn l hl

/-- Sending chunk `k` of the rounded columns to the peer, the rows it lands in having been handed over. -/
theorem wp_post (k : Fin 4) (l : List (Fin 4)) (f : Buf (Elt F) ((sendC k).view.loc (c : Thread nD τ)))
    (hf : (sendC k).view.read (Elt F) f = k0_pay1 (giveV m c k))
    {hsrc : (sendC k).view.WordExact} {hdst : (outLand (yOf c) k).view.WordExact}
    {hsc : (outLand (yOf c) k).view.ref.isScScratch = false}
    {hsem : DmaTarget.Typed (nD := nD) (τ := τ) .vmem (.dma (recvSem k))
      (DmaTarget.remote (p := (.tc : Proc τ)) (peer c : Thread nD τ) (outLand (yOf c) k) (.dma (sendSem k)) hsc)}
    (Q : Unit → sProp 𝕄) :
    iprop((records m K ∗ token c (.sent k) ∗ token (peer c) (.came k) ∗ piece c (sendC k) f
        ∗ (∃ g, piece (peer c) (outLand (yOf c) k) g) ∗ owing c (rem c (k :: l)))
      ∗ ((due c (.sent k) ∗ owing c (rem c l)) -∗ Q ⟨⟩))
      ⊢ run c (.op (.enqueueDma (sendC k) (.remote (peer c : Thread nD τ) (outLand (yOf c) k) (.dma (sendSem k)) hsc)
          (.dma (recvSem k)) hsrc hdst hsem) Prog.ret) Q := by
  unfold owing
  iintro ⟨⟨#Hrec, Htok, Htok', Hsrc, ⟨%g, Hdst⟩, ⟨%W, HO⟩⟩, Hk⟩
  ihave Hr := (record m K c (.sent k)) $$ Hrec
  icases Hr with ⟨#HI, #HR⟩
  ihave Hr := (record m K (peer c) (.came k)) $$ Hrec
  icases Hr with ⟨#HI', #HR'⟩
  iapply (Rounds.wp_send_pointsTo 𝒱₀ ER (Rd m) (c : Thread nD τ) none (κ₁ := K (c, .sent k)) (κ₂ := K (peer c, .came k))
    (src := sendC k) (dst := outLand (yOf c) k) (hsrc := hsrc) (hdst := hdst) (hsem := hsem) (hsc := hsc)
    (c' := (peer c : Thread nD τ)) (sS := .dma (sendSem k)) (sem := .dma (recvSem k)) (q := fullShare)
    (r₁ := 0) (r₂ := 0) (d₁ := ()) (d₂ := ()) (fs := f) (fd := g) (W := W)
    (mem_duties m c (.sent k)) (mem_duties m (peer c) (.came k)) () () (amt (.came k)) (amount_came _ k)
    ((amount_cell m c (.sent k)).trans (amt_sent k k)) (amount_cell m (peer c) (.came k)) (rem c l) rfl
    (by
      rw [show (Rd (F := F) m).payload ((c : Thread nD τ), .dma (sendSem k)) 0 () = pay m c (.sent k) from payload_cell m c (.sent k)]
      unfold pay piece
      iintro H; iexists f; iexact H)
    (by
      rw [show (Rd (F := F) m).payload ((peer c : Thread nD τ), .dma (recvSem k)) 0 () = pay m (peer c) (.came k)
        from payload_cell m (peer c) (.came k)]
      unfold pay
      rw [peer_peer, hf]
      exact holds_of_write (peer c) (outLand (yOf c) k) g _)) $$ [Htok Htok' Hsrc Hdst HO]
  · isplitr; · iexact HI
    isplitr; · iexact HI'
    isplitl [Hsrc]; · unfold piece; iexact Hsrc
    isplitl [Hdst]; · unfold piece; iexact Hdst
    isplitl [HO]; · iexact HO
    isplitl [Htok]; · iexact Htok
    isplitr; · iexact HR
    isplitl [Htok']; · iexact Htok'
    iexact HR'
  iintro ⟨Hc, HO⟩
  iapply (run_ret c Q)
  iapply Hk
  isplitl [Hc]
  · unfold due; rw [amt_sent k k]; iexact Hc
  iexists W; iexact HO

/-- Chunk `k`, from its copy's landing to its send. -/
theorem wp_pass (k : Fin 4) (l : List (Fin 4)) (Q : Unit → sProp 𝕄) :
    iprop((records m K ∗ levAts L lv ∗ due c (.fetch k) ∗ turn c (.fetch k) ∗ token c (.sent k) ∗ token (peer c) (.came k)
        ∗ (∃ f, piece c (sendC k) f) ∗ (∃ g, piece (peer c) (outLand (yOf c) k) g) ∗ owing c (rem c (k :: l)))
      ∗ ((semVal (cell c (.fetch k)) 0 ∗ piece c (argGive (yOf c) k) (argOf m c) ∗ (∃ f, piece c (giveC k) f)
          ∗ due c (.sent k) ∗ owing c (rem c l)) -∗ Q ⟨⟩)) ⊢ run c (pass (yOf c) (peer c) k) Q := by
  unfold pass
  simp only [Prog.lift, Prog.bind_op, Prog.bind_ret]
  iintro ⟨⟨#Hrec, #Hlev, Hdue, Hturn, Htok, Htok', ⟨%f, Hsend⟩, Hrows, HO⟩, Hk⟩
  iapply (wp_arrive m K c (.fetch k) (sem := inSem k) rfl (src := argGive (yOf c) k) (dst := giveC k)
    (hsrc := View.wordExact_bits rfl) (hdst := View.wordExact_bits rfl) rfl (k :: l) (Or.inl (by decide : (0 : ℕ) < 2))) $$ [Hdue Hturn HO]
  · isplitr; · iexact Hrec
    isplitr; · iexact Hlev
    isplitl [Hdue]; · iexact Hdue
    isplitl [Hturn]; · iexact Hturn
    iexact HO
  unfold pay holds owns
  iintro ⟨HO, Hz, ⟨⟨%g, %hg, Hg⟩, Harg⟩⟩
  iapply (wp_load_rect 𝒱₀ (c : Thread nD τ) none Set.univ (m := giveM) (r := chunkRect k) (S := (giveC k).view.set) subset_rfl) $$ [Hg]
  · iexact Hg
  iintro Hg
  iapply (wp_load_rect 𝒱₀ (c : Thread nD τ) none Set.univ (m := sendM) (r := chunkRect k) (S := (sendC k).view.set) subset_rfl) $$ [Hsend]
  · unfold piece; iexact Hsend
  iintro Hsend
  iapply (wp_store 𝒱₀ (c : Thread nD τ) none Set.univ (m := sendM) (r := chunkRect k) (Mk := Finset.univ) (S := (sendC k).view.set) subset_rfl) $$ [Hsend]
  · iexact Hsend
  iintro Hsend
  iapply (wp_post m K c k l ((sendC k).view.write (Elt F) f (k0_pay1 ((giveC k).view.read (Elt F) g)) Finset.univ)
    ((View.read_write_univ _ _).trans (congrArg k0_pay1 hg))
    (hsrc := exact_sendC k) (hdst := exact_outLand (yOf c) k) (Q := Q))
  isplitl [Hsend Htok Htok' Hrows HO]
  · isplitr; · iexact Hrec
    isplitl [Htok]; · iexact Htok
    isplitl [Htok']; · iexact Htok'
    isplitl [Hsend]; · unfold piece; iexact Hsend
    isplitl [Hrows]; · iexact Hrows
    iexact HO
  iintro ⟨Hs, HO⟩
  iapply Hk
  isplitl [Hz]; · iexact Hz
  isplitl [Harg]; · iexact Harg
  isplitl [Hg]; · iexists g; unfold piece; iexact Hg
  isplitl [Hs]; · iexact Hs
  iexact HO

/-- The kept half's copy into the result, landed, is what its semaphore hands over. -/
theorem wp_place_pay : holds c (outHalf (yOf c)) (ownM.view.read (Elt F) (k0_pay6 (keepV m c))) ∗ piece c ownM (k0_pay6 (keepV m c))
    ⊢ pay m c .own := by
  unfold pay
  iintro ⟨Hout, Hown⟩
  isplitl [Hout]; · iexact Hout
  iexists _; iexact Hown

/-- The kept half, from its copy's landing to the landing of the rounded one in the result. -/
theorem wp_place (Q : Unit → sProp 𝕄) :
    iprop((records m K ∗ levAts L lv ∗ due c .keep ∗ turn c .keep ∗ token c .own ∗ turn c .own
        ∗ (∃ f, piece c ownM f) ∗ (∃ f, piece c (outHalf (yOf c)) f) ∗ owing c (rem c []))
      ∗ ((semVal (cell c .keep) 0 ∗ semVal (cell c .own) 0 ∗ piece c (argKeep (yOf c)) (argOf m c) ∗ (∃ f, piece c keepM f)
          ∗ (∃ f, piece c ownM f) ∗ holds c (outHalf (yOf c)) (k0_pay6 (keepV m c)) ∗ owing c (rem c [])) -∗ Q ⟨⟩))
      ⊢ run c (place (yOf c)) Q := by
  unfold place
  simp only [Prog.lift, Prog.bind_op, Prog.bind_ret]
  iintro ⟨⟨#Hrec, #Hlev, Hdue, Hturn, Htok, Hturn', ⟨%f, Hown⟩, Hout, HO⟩, Hk⟩
  iapply (wp_arrive m K c .keep (sem := keepSem) rfl (src := argKeep (yOf c)) (dst := keepM)
    (hsrc := View.wordExact_bits rfl) (hdst := (Memref.isWhole_whole cc0_scratch1).wordExact) rfl [] (Or.inr rfl)) $$ [Hdue Hturn HO]
  · isplitr; · iexact Hrec
    isplitr; · iexact Hlev
    isplitl [Hdue]; · iexact Hdue
    isplitl [Hturn]; · iexact Hturn
    iexact HO
  iintro ⟨HO, Hz, Hp⟩
  ihave Hp := (Entails.of_eq (show pay m c .keep = iprop((∃ g : Buf (Elt F) (keepM.view.loc (c : Thread nD τ)),
      ⌜keepM.view.read (Elt F) g = keepV m c⌝ ∗ keepM.view.loc (c : Thread nD τ) ↦[keepM.view.set]{fullShare} g)
      ∗ piece c (argKeep (yOf c)) (argOf m c)) from rfl)) $$ Hp
  icases Hp with ⟨⟨%g, %hg, Hg⟩, Harg⟩
  iapply (wp_load 𝒱₀ (c : Thread nD τ) none Set.univ (m := keepM) (r := allRect.toLoadRect) (S := keepM.view.set)
    (by rw [View.set_whole]; exact Finset.subset_univ _)) $$ [Hg]
  · iexact Hg
  iintro Hg
  iapply (wp_load 𝒱₀ (c : Thread nD τ) none Set.univ (m := ownM) (r := allRect.toLoadRect) (S := ownM.view.set)
    (by rw [View.set_whole]; exact Finset.subset_univ _)) $$ [Hown]
  · unfold piece; iexact Hown
  iintro Hown
  iapply (wp_store 𝒱₀ (c : Thread nD τ) none Set.univ (m := ownM) (r := allRect) (Mk := Finset.univ) (S := ownM.view.set)
    (by rw [View.set_whole]; exact Finset.subset_univ _)) $$ [Hown]
  · iexact Hown
  rw [show keepM.view.readAt (Elt F) allRect.toLoadRect g = keepV m c from
      (Memref.readAt_unit_zero (Elt F) cc0_scratch1 (funext fun a => by fin_cases a <;> rfl) _ g).trans hg,
    show (ownM.access allRect).write (Elt F) f (k0_pay6 (keepV m c)) Finset.univ = k0_pay6 (keepV m c) from
      Memref.write_access_unit_zero_univ (Elt F) cc0_scratch3 (funext fun a => by fin_cases a <;> rfl) _ f _]
  iintro Hown
  iapply (wp_copy_own m K c .own (sm := .dma ownSem) rfl (src := ownM) (dst := outHalf (yOf c))
    (hsrc := (Memref.isWhole_whole cc0_scratch3).wordExact) (hdst := exact_outHalf (yOf c)) (hsem := ⟨Or.inl rfl, trivial⟩)
    (k0_pay6 (keepV m c)) (amount_own (yOf c)) (wp_place_pay m c) Q)
  isplitl [Htok Hown Hout]
  · isplitr; · iexact Hrec
    isplitl [Htok]; · iexact Htok
    isplitl [Hown]; · unfold piece; iexact Hown
    iexact Hout
  iintro Hdue
  iapply (wp_arrive m K c .own (sem := ownSem) rfl (src := ownM) (dst := outHalf (yOf c))
    (hsrc := (Memref.isWhole_whole cc0_scratch3).wordExact) (hdst := exact_outHalf (yOf c)) rfl [] (Or.inr rfl)) $$ [Hdue Hturn' HO]
  · isplitr; · iexact Hrec
    isplitr; · iexact Hlev
    isplitl [Hdue]; · iexact Hdue
    isplitl [Hturn']; · iexact Hturn'
    iexact HO
  iintro ⟨HO, Hz', Hp⟩
  ihave Hp := (Entails.of_eq (show pay m c .own = iprop(holds c (outHalf (yOf c)) (k0_pay6 (keepV m c)) ∗ ∃ f, piece c ownM f) from rfl)) $$ Hp
  icases Hp with ⟨Hout, Hown⟩
  iapply (run_ret c Q)
  iapply Hk
  isplitl [Hz]; · iexact Hz
  isplitl [Hz']; · iexact Hz'
  isplitl [Harg]; · iexact Harg
  isplitl [Hg]; · iexists g; unfold piece; iexact Hg
  isplitl [Hown]; · iexact Hown
  isplitl [Hout]; · iexact Hout
  iexact HO

/-- Chunk `k` gone and the peer's chunk `k` here. -/
theorem wp_settle (k : Fin 4) (Q : Unit → sProp 𝕄) :
    iprop((records m K ∗ levAts L lv ∗ due c (.sent k) ∗ turn c (.sent k) ∗ due c (.came k) ∗ turn c (.came k) ∗ owing c (rem c []))
      ∗ ((semVal (cell c (.sent k)) 0 ∗ semVal (cell c (.came k)) 0 ∗ (∃ f, piece c (sendC k) f)
          ∗ holds c (outLand (yOf (peer c)) k) (k0_pay1 (giveV m (peer c) k)) ∗ owing c (rem c [])) -∗ Q ⟨⟩))
      ⊢ run c (settle (yOf c) k) Q := by
  unfold settle
  simp only [Prog.lift, Prog.bind_op, Prog.bind_ret]
  iintro ⟨⟨#Hrec, #Hlev, Hdue, Hturn, Hdue', Hturn', HO⟩, Hk⟩
  iapply (wp_arrive m K c (.sent k) (sem := sendSem k) rfl (src := outLand (yOf c) k) (dst := sendC k)
    (hsrc := exact_outLand (yOf c) k) (hdst := exact_sendC k) rfl [] (Or.inr rfl)) $$ [Hdue Hturn HO]
  · isplitr; · iexact Hrec
    isplitr; · iexact Hlev
    isplitl [Hdue]; · iexact Hdue
    isplitl [Hturn]; · iexact Hturn
    iexact HO
  iintro ⟨HO, Hz, Hsent⟩
  iapply (wp_arrive m K c (.came k) (sem := recvSem k) rfl (src := sendC k) (dst := outLand (yOf c) k)
    (hsrc := exact_sendC k) (hdst := exact_outLand (yOf c) k) rfl [] (Or.inr rfl)) $$ [Hdue' Hturn' HO]
  · isplitr; · iexact Hrec
    isplitr; · iexact Hlev
    isplitl [Hdue']; · iexact Hdue'
    isplitl [Hturn']; · iexact Hturn'
    iexact HO
  iintro ⟨HO, Hz', Hcame⟩
  iapply (run_ret c Q)
  iapply Hk
  isplitl [Hz]; · iexact Hz
  isplitl [Hz']; · iexact Hz'
  isplitl [Hsent]; · unfold pay; iexact Hsent
  isplitl [Hcame]; · unfold pay; iexact Hcame
  iexact HO

end Cert.AllToAll
-- ==== Proof.Body.lean ====
/-
  The whole exchange on one device, its steps in order.
-/
module

public import proofs.«01_k».proof.Proof.Steps

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Job → ℕ) (c : Dev nD)

/-- One of a thing per chunk. -/
def four (Φ : Fin 4 → sProp 𝕄) : sProp 𝕄 := iprop(Φ c0 ∗ Φ c1 ∗ Φ c2 ∗ Φ c3)

theorem four_eq (Φ : Fin 4 → sProp 𝕄) : bigSep Finset.univ Φ = four Φ := by
  rw [bigSep_univ_eq_bigSepL [c0, c1, c2, c3] (by decide) (by decide), bigSepL_cons_cons, bigSepL_cons_cons, bigSepL_cons_cons,
    bigSepL_singleton]
  rfl

/-- What a device's part of the protocol starts with for chunk `k`, -/
def chunkGhost (k : Fin 4) : sProp 𝕄 :=
  iprop(token c (.fetch k) ∗ turn c (.fetch k) ∗ token c (.sent k) ∗ turn c (.sent k)
    ∗ token (peer c) (.came k) ∗ turn c (.came k) ∗ due c (.came k))
/-- and for the rest. -/
def restGhost : sProp 𝕄 :=
  iprop(token c .keep ∗ turn c .keep ∗ token c .own ∗ turn c .own ∗ token (peer c) .bar ∗ turn c .bar ∗ due c .bar)

/-- The memory a device starts with for chunk `k`: the columns to send, room for them in both
    scratch arrays, and the rows of its result that the peer will write; -/
def chunkMem (k : Fin 4) : sProp 𝕄 :=
  iprop(piece c (argGive (yOf c) k) (argOf m c) ∗ (∃ f, piece c (giveC k) f) ∗ (∃ f, piece c (sendC k) f)
    ∗ (∃ f, piece c (outLand (yOf (peer c)) k) f))
/-- and for the kept half. -/
def restMem : sProp 𝕄 :=
  iprop(piece c (argKeep (yOf c)) (argOf m c) ∗ (∃ f, piece c keepM f) ∗ (∃ f, piece c ownM f) ∗ (∃ f, piece c (outHalf (yOf c)) f))

/-- What it ends with for chunk `k`: the same memory, the peer's chunk in its rows of the result; -/
def chunkEnd (k : Fin 4) : sProp 𝕄 :=
  iprop(piece c (argGive (yOf c) k) (argOf m c) ∗ (∃ f, piece c (giveC k) f) ∗ (∃ f, piece c (sendC k) f)
    ∗ holds c (outLand (yOf (peer c)) k) (k0_pay1 (giveV m (peer c) k)))
/-- and for the kept half. -/
def restEnd : sProp 𝕄 :=
  iprop(piece c (argKeep (yOf c)) (argOf m c) ∗ (∃ f, piece c keepM f) ∗ (∃ f, piece c ownM f)
    ∗ holds c (outHalf (yOf c)) (k0_pay6 (keepV m c)))

/-- The semaphores of chunk `k`, at zero; -/
def chunkZero (k : Fin 4) : sProp 𝕄 :=
  iprop(semVal (cell c (.fetch k)) 0 ∗ semVal (cell c (.sent k)) 0 ∗ semVal (cell c (.came k)) 0)
/-- and the others but the barrier. -/
def restZero : sProp 𝕄 := iprop(semVal (cell c .keep) 0 ∗ semVal (cell c .own) 0)

/-- Two things per chunk are one and the other of each. -/
theorem four_sep (Φ Ψ : Fin 4 → sProp 𝕄) : (four fun k => iprop(Φ k ∗ Ψ k)) = iprop(four Φ ∗ four Ψ) := by
  rw [← four_eq, ← four_eq, ← four_eq, bigSep_sep']

/-- A step done for each chunk in turn. If for chunk `k` it takes `Φ k` to `Ψ k`, and what is carried along from `R (k :: l)` to
    `R l`, then the four take all the `Φ` to all the `Ψ`. -/
theorem wp_four (step : Fin 4 → P F) (Φ Ψ : Fin 4 → sProp 𝕄) (R : List (Fin 4) → sProp 𝕄)
    (h : ∀ k l (Q : Unit → sProp 𝕄), iprop((Φ k ∗ R (k :: l)) ∗ ((Ψ k ∗ R l) -∗ Q ⟨⟩)) ⊢ run c (step k) Q) (Q : Unit → sProp 𝕄) :
    iprop((four Φ ∗ R chunks) ∗ ((four Ψ ∗ R []) -∗ Q ⟨⟩))
      ⊢ run c (step c0) fun _ => run c (step c1) fun _ => run c (step c2) fun _ => run c (step c3) Q := by
  unfold four
  iintro ⟨⟨⟨P0, P1, P2, P3⟩, HR⟩, Hk⟩
  iapply (h c0 [c1, c2, c3])
  isplitl [P0 HR]; · isplitl [P0] <;> iassumption
  iintro ⟨S0, HR⟩
  iapply (h c1 [c2, c3])
  isplitl [P1 HR]; · isplitl [P1] <;> iassumption
  iintro ⟨S1, HR⟩
  iapply (h c2 [c3])
  isplitl [P2 HR]; · isplitl [P2] <;> iassumption
  iintro ⟨S2, HR⟩
  iapply (h c3 [])
  isplitl [P3 HR]; · isplitl [P3] <;> iassumption
  iintro ⟨S3, HR⟩
  iapply Hk
  isplitr [HR]
  · isplitl [S0]; · iexact S0
    isplitl [S1]; · iexact S1
    isplitl [S2] <;> iassumption
  iexact HR

/-- What is left of chunk `k`, its rows of the result apart, once its copy into scratch is started. -/
def fetching (k : Fin 4) : sProp 𝕄 :=
  iprop(due c (.fetch k) ∗ turn c (.fetch k) ∗ token c (.sent k) ∗ turn c (.sent k) ∗ token (peer c) (.came k) ∗ turn c (.came k)
    ∗ due c (.came k) ∗ (∃ f, piece c (sendC k) f))

/-- What is left of it once it is on its way to the peer. -/
def sending (k : Fin 4) : sProp 𝕄 :=
  iprop(semVal (cell c (.fetch k)) 0 ∗ piece c (argGive (yOf c) k) (argOf m c) ∗ (∃ f, piece c (giveC k) f)
    ∗ due c (.sent k) ∗ turn c (.sent k) ∗ due c (.came k) ∗ turn c (.came k))

/-- The rows of the result of device `d` that its peer writes with chunk `k`, at any contents. -/
def rows (d : Dev nD) (k : Fin 4) : sProp 𝕄 := iprop(∃ f, piece d (outLand (yOf (peer d)) k) f)

/-- The facts that every step uses, and what the device owes while it has the chunks `l` still to send. -/
def along (l : List (Fin 4)) : sProp 𝕄 := iprop(records m K ∗ levAts L lv ∗ owing c (rem c l))

/-- Starting the copy of each chunk into scratch. -/
theorem wp_fetches (Q : Unit → sProp 𝕄) :
    iprop((four (fun k => iprop(chunkGhost c k ∗ chunkMem m c k)) ∗ records m K)
      ∗ ((four (fun k => iprop(fetching c k ∗ rows c k)) ∗ records m K) -∗ Q ⟨⟩))
      ⊢ run c (startIn (yOf c) c0) fun _ => run c (startIn (yOf c) c1) fun _ => run c (startIn (yOf c) c2) fun _ =>
        run c (startIn (yOf c) c3) Q := by
  refine wp_four c (startIn (yOf c)) _ _ (fun _ => records m K) (fun k _ Q => ?_) Q
  unfold chunkGhost chunkMem fetching rows
  iintro ⟨⟨⟨⟨Tf, Uf, Ts, Us, Tc, Uc, Dc⟩, A, G, S, R⟩, #Hrec⟩, Hk⟩
  iapply (wp_startIn m K c k)
  isplitl [Tf A G]
  · isplitr; · iexact Hrec
    isplitl [Tf]; · iexact Tf
    isplitl [A] <;> iassumption
  iintro Df
  iapply Hk
  isplitl; rotate_left; · iexact Hrec
  isplitr [R]; rotate_left; · iexact R
  isplitl [Df]; · iexact Df
  isplitl [Uf]; · iexact Uf
  isplitl [Ts]; · iexact Ts
  isplitl [Us]; · iexact Us
  isplitl [Tc]; · iexact Tc
  isplitl [Uc]; · iexact Uc
  isplitl [Dc] <;> iassumption

/-- Rounding and sending each chunk, with the rows that the peer handed over. -/
theorem wp_passes (Q : Unit → sProp 𝕄) :
    iprop((four (fun k => iprop(fetching c k ∗ ∃ f, piece (peer c) (outLand (yOf c) k) f)) ∗ along m K c chunks)
      ∗ ((four (sending m c) ∗ along m K c []) -∗ Q ⟨⟩))
      ⊢ run c (pass (yOf c) (peer c) c0) fun _ => run c (pass (yOf c) (peer c) c1) fun _ => run c (pass (yOf c) (peer c) c2) fun _ =>
        run c (pass (yOf c) (peer c) c3) Q := by
  refine wp_four c (pass (yOf c) (peer c)) _ _ (along m K c) (fun k l Q => ?_) Q
  unfold fetching sending along
  iintro ⟨⟨⟨⟨Df, Uf, Ts, Us, Tc, Uc, Dc, S⟩, R⟩, #Hrec, #Hlev, HO⟩, Hk⟩
  iapply (wp_pass m K c k l)
  isplitl [Df Uf Ts Tc S R HO]
  · isplitr; · iexact Hrec
    isplitr; · iexact Hlev
    isplitl [Df]; · iexact Df
    isplitl [Uf]; · iexact Uf
    isplitl [Ts]; · iexact Ts
    isplitl [Tc]; · iexact Tc
    isplitl [S]; · iexact S
    isplitl [R] <;> iassumption
  iintro ⟨Zf, A, G, Ds, HO⟩
  iapply Hk
  isplitr [HO]
  · isplitl [Zf]; · iexact Zf
    isplitl [A]; · iexact A
    isplitl [G]; · iexact G
    isplitl [Ds]; · iexact Ds
    isplitl [Us]; · iexact Us
    isplitl [Dc] <;> iassumption
  isplitr; · iexact Hrec
  isplitr; · iexact Hlev
  iexact HO

/-- Waiting for each chunk, sent and received. -/
theorem wp_settles (Q : Unit → sProp 𝕄) :
    iprop((four (sending m c) ∗ along m K c [])
      ∗ ((four (fun k => iprop(chunkEnd m c k ∗ chunkZero c k)) ∗ along m K c []) -∗ Q ⟨⟩))
      ⊢ run c (settle (yOf c) c0) fun _ => run c (settle (yOf c) c1) fun _ => run c (settle (yOf c) c2) fun _ =>
        run c (settle (yOf c) c3) Q := by
  refine wp_four c (settle (yOf c)) _ _ (fun _ => along m K c []) (fun k _ Q => ?_) Q
  unfold sending along chunkEnd chunkZero
  iintro ⟨⟨⟨Zf, A, G, Ds, Us, Dc, Uc⟩, #Hrec, #Hlev, HO⟩, Hk⟩
  iapply (wp_settle m K c k)
  isplitl [Ds Us Dc Uc HO]
  · isplitr; · iexact Hrec
    isplitr; · iexact Hlev
    isplitl [Ds]; · iexact Ds
    isplitl [Us]; · iexact Us
    isplitl [Dc]; · iexact Dc
    isplitl [Uc] <;> iassumption
  iintro ⟨Zs, Zc, S, R, HO⟩
  iapply Hk
  isplitr [HO]
  · isplitl [A G S R]
    · isplitl [A]; · iexact A
      isplitl [G]; · iexact G
      isplitl [S] <;> iassumption
    isplitl [Zf]; · iexact Zf
    isplitl [Zs] <;> iassumption
  isplitr; · iexact Hrec
  isplitr; · iexact Hlev
  iexact HO

/-- The exchange, from a device's share of the protocol and its memory to its memory exchanged. -/
theorem wp_exchange (Q : Unit → sProp 𝕄) :
    iprop((records m K ∗ levAts L lv ∗ four (chunkGhost c) ∗ restGhost c ∗ four (chunkMem m c) ∗ restMem m c ∗ owing c (O₀ c))
      ∗ ((four (chunkEnd m c) ∗ restEnd m c ∗ four (chunkZero c) ∗ restZero c ∗ semVal (cell c .bar) 0 ∗ owing c (rem c [])) -∗ Q ⟨⟩))
      ⊢ run c (exchange (yOf c) (peer c) (peer c) (peer c) (peer c) (peer c)) Q := by
  unfold exchange run
  simp only [wp_bind]
  have hf := wp_fetches m K c
  have hp := wp_passes m K c
  have hs := wp_settles m K c
  simp only [four_sep] at hf hp hs
  unfold restGhost restMem
  iintro ⟨⟨#Hrec, #Hlev, HG, ⟨Tk, Uk, To, Uo, Tb, Ub, Db⟩, HM, ⟨Ak, Gk, Ow, Ou⟩, HO⟩, Hk⟩
  iapply (hf _)
  isplitl [HG HM]
  · isplitl; rotate_left; · iexact Hrec
    isplitl [HG] <;> iassumption
  iintro ⟨⟨HF, HR⟩, -⟩
  iapply (wp_startKeep m K c)
  isplitl [Tk Ak Gk]
  · isplitr; · iexact Hrec
    isplitl [Tk]; · iexact Tk
    isplitl [Ak] <;> iassumption
  iintro Dk
  iapply (wp_tell m K c chunks)
  isplitl [Tb HO HR]
  · isplitr; · iexact Hrec
    isplitl [Tb]; · iexact Tb
    isplitl [HO]; · unfold O₀; iexact HO
    rw [four_eq]; iexact HR
  iintro HO
  iapply (wp_hear m K c chunks)
  isplitl [Db Ub HO]
  · isplitr; · iexact Hrec
    isplitr; · iexact Hlev
    isplitl [Db]; · iexact Db
    isplitl [Ub] <;> iassumption
  iintro ⟨HO, Zb, HR⟩
  iapply (hp _)
  isplitl [HF HR HO]
  · isplitl [HF HR]
    · isplitl [HF]; · iexact HF
      iapply (show pay m c .bar ⊢ four fun k => iprop(∃ f, piece (peer c) (outLand (yOf c) k) f) from Entails.of_eq (four_eq _))
      iexact HR
    unfold along
    isplitr; · iexact Hrec
    isplitr; · iexact Hlev
    iexact HO
  unfold along
  iintro ⟨HS, -, -, HO⟩
  iapply (wp_place m K c)
  isplitl [Dk Uk To Uo Ow Ou HO]
  · isplitr; · iexact Hrec
    isplitr; · iexact Hlev
    isplitl [Dk]; · iexact Dk
    isplitl [Uk]; · iexact Uk
    isplitl [To]; · iexact To
    isplitl [Uo]; · iexact Uo
    isplitl [Ow]; · iexact Ow
    isplitl [Ou] <;> iassumption
  iintro ⟨Zk, Zo, Ak, Gk, Ow, Ou, HO⟩
  iapply (hs _)
  isplitl [HS HO]
  · isplitl [HS]; · iexact HS
    unfold along
    isplitr; · iexact Hrec
    isplitr; · iexact Hlev
    iexact HO
  unfold along
  iintro ⟨⟨HE, HZ⟩, -, -, HO⟩
  iapply Hk
  unfold restEnd restZero
  isplitl [HE]; · iexact HE
  isplitl [Ak Gk Ow Ou]
  · isplitl [Ak]; · iexact Ak
    isplitl [Gk]; · iexact Gk
    isplitl [Ow] <;> iassumption
  isplitl [HZ]; · iexact HZ
  isplitl [Zk Zo]
  · isplitl [Zk] <;> iassumption
  isplitl [Zb] <;> iassumption

end Cert.AllToAll
-- ==== Proof.Pieces.lean ====
/-
  The arrays cut into the pieces of the exchange, and put together again.

  A device's argument is its kept half and the four chunks it sends; its result is the half it writes
  itself and the four chunks that its peer writes; either scratch array of chunks is four chunks.
-/
module

public import proofs.«01_k».proof.Proof.Body
public import Idealize.ShloMosaic.Lib.ViewIndex
public import Idealize.ShloMosaic.Lib.Pipeline.ValueKit.Geometry

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Which elements the pieces have -/

theorem mem_keep (y : Fin 2) (i : S512x1024.Idx) :
    i ∈ (keepRect y).set ↔ 512 * y.val ≤ (i 1).val ∧ (i 1).val < 512 * y.val + 512 := by
  rw [Rect.mem_set_unit, Fin.forall_fin_two]
  have := (i 0).isLt
  simp at this ⊢
  omega

theorem mem_give (y : Fin 2) (k : Fin 4) (i : S512x1024.Idx) :
    i ∈ (giveRect y k).set ↔ (128 * k.val ≤ (i 0).val ∧ (i 0).val < 128 * k.val + 128)
      ∧ 512 * (1 - y.val) ≤ (i 1).val ∧ (i 1).val < 512 * (1 - y.val) + 512 := by
  rw [Rect.mem_set_unit, Fin.forall_fin_two]
  simp

theorem mem_half (y : Fin 2) (i : S1024x512.Idx) :
    i ∈ (halfRect y).set ↔ 512 * y.val ≤ (i 0).val ∧ (i 0).val < 512 * y.val + 512 := by
  rw [Rect.mem_set_unit, Fin.forall_fin_two]
  have := (i 1).isLt
  simp at this ⊢
  omega

theorem mem_land (y : Fin 2) (k : Fin 4) (i : S1024x512.Idx) :
    i ∈ (landRect y k).set ↔ 512 * y.val + 128 * k.val ≤ (i 0).val ∧ (i 0).val < 512 * y.val + 128 * k.val + 128 := by
  rw [Rect.mem_set_unit, Fin.forall_fin_two]
  have := (i 1).isLt
  simp at this ⊢
  omega

theorem mem_chunk (k : Fin 4) (i : S512x512.Idx) :
    i ∈ (chunkRect k).set ↔ 128 * k.val ≤ (i 0).val ∧ (i 0).val < 128 * k.val + 128 := by
  rw [Rect.mem_set_unit, Fin.forall_fin_two]
  have := (i 1).isLt
  simp at this ⊢
  omega

/-! ## Cutting and joining -/

/-- A set of elements and four others, apart from one another. -/
def Apart {s : Shape} (A : Finset s.Idx) (B : Fin 4 → Finset s.Idx) : Prop :=
  (∀ k, Disjoint A (B k)) ∧ ∀ k k', k ≠ k' → Disjoint (B k) (B k')

theorem apart_of {s : Shape} {A : Finset s.Idx} {B : Fin 4 → Finset s.Idx} (hA : ∀ k i, i ∈ A → i ∉ B k)
    (hB : ∀ k k' i, k ≠ k' → i ∈ B k → i ∉ B k') : Apart A B :=
  ⟨fun k => Finset.disjoint_left.mpr fun i => hA k i, fun k k' h => Finset.disjoint_left.mpr fun i => hB k k' i h⟩

theorem apart_arg (y : Fin 2) : Apart (s := S512x1024) (keepRect y).set (fun k => (giveRect y k).set) := by
  refine apart_of (fun k i h h' => ?_) (fun k k' i hk h h' => hk (Fin.ext ?_))
  · rw [mem_keep] at h; rw [mem_give] at h'; omega
  · rw [mem_give] at h h'; omega

theorem cover_arg (y : Fin 2) : (keepRect y).set ∪ Finset.univ.biUnion (fun k : Fin 4 => (giveRect y k).set) = Finset.univ := by
  ext i
  have h0 : (i 0).val < 512 := (i 0).isLt
  have h1 : (i 1).val < 1024 := (i 1).isLt
  simp only [Finset.mem_union, Finset.mem_biUnion, Finset.mem_univ, true_and, iff_true, mem_keep, mem_give]
  by_cases h : 512 * y.val ≤ (i 1).val ∧ (i 1).val < 512 * y.val + 512
  · exact Or.inl h
  · exact Or.inr ⟨⟨(i 0).val / 128, by omega⟩, by dsimp only; omega, by omega⟩

/-- The half of a result that its device writes, and the chunks from the other place. -/
theorem apart_out (y y' : Fin 2) (h : y'.val = 1 - y.val) :
    Apart (s := S1024x512) (halfRect y).set (fun k => (landRect y' k).set) := by
  refine apart_of (fun k i h h' => ?_) (fun k k' i hk h h' => hk (Fin.ext ?_))
  · rw [mem_half] at h; rw [mem_land] at h'; omega
  · rw [mem_land] at h h'; omega

theorem cover_out (y y' : Fin 2) (h : y'.val = 1 - y.val) :
    (halfRect y).set ∪ Finset.univ.biUnion (fun k : Fin 4 => (landRect y' k).set) = Finset.univ := by
  ext i
  have h0 : (i 0).val < 1024 := (i 0).isLt
  simp only [Finset.mem_union, Finset.mem_biUnion, Finset.mem_univ, true_and, iff_true, mem_half, mem_land]
  by_cases h : 512 * y.val ≤ (i 0).val ∧ (i 0).val < 512 * y.val + 512
  · exact Or.inl h
  · refine Or.inr ⟨⟨((i 0).val - 512 * y'.val) / 128, by omega⟩, ?_, ?_⟩ <;> dsimp only <;> omega

theorem apart_chunk : Apart (s := S512x512) ∅ (fun k => (chunkRect k).set) := by
  refine apart_of (fun k i h => absurd h (Finset.notMem_empty i)) (fun k k' i hk h h' => hk (Fin.ext ?_))
  rw [mem_chunk] at h h'; omega

theorem cover_chunk : Finset.univ.biUnion (fun k : Fin 4 => (chunkRect k).set) = Finset.univ := by
  ext i
  have h0 : (i 0).val < 512 := (i 0).isLt
  simp only [Finset.mem_biUnion, Finset.mem_univ, true_and, iff_true, mem_chunk]
  refine ⟨⟨(i 0).val / 128, by omega⟩, ?_, ?_⟩ <;> dsimp only <;> omega

/-- An array whole is one part of it and the four others. -/
theorem cut (b : Ref sig .tc) {A : Finset b.ty.shape.Idx} {B : Fin 4 → Finset b.ty.shape.Idx} (h : Apart A B)
    (hc : A ∪ Finset.univ.biUnion B = Finset.univ) (f : Buf (Elt F) ((c : Thread nD τ).loc b)) :
    ((c : Thread nD τ).loc b ↦{fullShare} f : sProp 𝕄)
      = iprop(((c : Thread nD τ).loc b ↦[A]{fullShare} f) ∗ four fun k => (c : Thread nD τ).loc b ↦[B k]{fullShare} f) := by
  have hd : Disjoint A (Finset.univ.biUnion B) := by
    rw [Finset.disjoint_biUnion_right]; exact fun k _ => h.1 k
  rw [← four_eq, ← pointsTo_biUnion (ℓ := (c : Thread nD τ).loc b) (f := f) Finset.univ B (fun k _ k' _ hk => h.2 k k' hk)]
  have hu := pointsTo_union (ℓ := (c : Thread nD τ).loc b) (q := fullShare) (f := f) (Ix := Unit) (Name := ℕ) (U := UU) (Lvl := ℕ) hd
  refine (congrArg (fun S => ((c : Thread nD τ).loc b ↦[S]{fullShare} f : sProp 𝕄)) hc.symm).trans ?_
  exact BI.equiv_iff.mp ⟨hu.1, hu.2⟩

/-- Something at known contents is so at some contents. -/
theorem four_some {X : Type} (Φ : Fin 4 → X → sProp 𝕄) (x : X) :
    (four fun k => Φ k x) ⊢ four fun k => iprop(∃ x, Φ k x) := by
  rw [← four_eq, ← four_eq]
  exact bigSep_mono fun k _ => exists_intro (Φ := Φ k) x

/-- Four parts that make up an array, each at some contents, are the array at some contents, and back. -/
theorem cut_some (b : Ref sig .tc) {B : Fin 4 → Finset b.ty.shape.Idx} (h : Apart ∅ B)
    (hc : Finset.univ.biUnion B = Finset.univ) :
    iprop(∃ f, (c : Thread nD τ).loc b ↦{fullShare} f)
      ⊢ (four fun k => iprop(∃ f, (c : Thread nD τ).loc b ↦[B k]{fullShare} f) : sProp 𝕄) := by
  iintro ⟨%f, H⟩
  ihave H' := (Entails.of_eq (cut c b h (by rw [Finset.empty_union]; exact hc) f)) $$ H
  icases H' with ⟨-, H⟩
  iapply (four_some (fun k f => (c : Thread nD τ).loc b ↦[B k]{fullShare} f) f)
  iexact H

theorem join_some (b : Ref sig .tc) {B : Fin 4 → Finset b.ty.shape.Idx} (h : Apart ∅ B)
    (hc : Finset.univ.biUnion B = Finset.univ) :
    (four fun k => iprop(∃ f, (c : Thread nD τ).loc b ↦[B k]{fullShare} f) : sProp 𝕄)
      ⊢ iprop(∃ f, (c : Thread nD τ).loc b ↦{fullShare} f) := by
  unfold four
  iintro ⟨⟨%f0, H0⟩, ⟨%f1, H1⟩, ⟨%f2, H2⟩, ⟨%f3, H3⟩⟩
  ihave H := (pointsTo_biUnion_join (ℓ := (c : Thread nD τ).loc b) (q := fullShare) Finset.univ B ![f0, f1, f2, f3] f0
    (fun k _ k' _ hk => h.2 k k' hk)) $$ [H0 H1 H2 H3]
  · rw [four_eq]; unfold four
    isplitl [H0]; · iexact H0
    isplitl [H1]; · iexact H1
    isplitl [H2]; · iexact H2
    iexact H3
  icases H with ⟨%g, -, H⟩
  iexists g
  rw [hc]
  iexact H

/-! ## The pieces by name -/

section Named
variable (y : Fin 2) (k : Fin 4)

theorem piece_argGive (f : main_arg0.ty.Contents (Elt F)) :
    (piece c (argGive y k) f : sProp 𝕄) = ((c : Thread nD τ).loc main_arg0 ↦[(giveRect y k).set]{fullShare} f) :=
  congrArg (fun S => ((c : Thread nD τ).loc main_arg0 ↦[S]{fullShare} f : sProp 𝕄)) (View.set_slice_whole main_arg0 (giveRect y k))
theorem piece_argKeep (f : main_arg0.ty.Contents (Elt F)) :
    (piece c (argKeep y) f : sProp 𝕄) = ((c : Thread nD τ).loc main_arg0 ↦[(keepRect y).set]{fullShare} f) :=
  congrArg (fun S => ((c : Thread nD τ).loc main_arg0 ↦[S]{fullShare} f : sProp 𝕄)) (View.set_slice_whole main_arg0 (keepRect y))
theorem piece_outLand (f : main_v1.ty.Contents (Elt F)) :
    (piece c (outLand y k) f : sProp 𝕄) = ((c : Thread nD τ).loc main_v1 ↦[(landRect y k).set]{fullShare} f) :=
  congrArg (fun S => ((c : Thread nD τ).loc main_v1 ↦[S]{fullShare} f : sProp 𝕄)) (View.set_slice_whole main_v1 (landRect y k))
theorem piece_outHalf (f : main_v1.ty.Contents (Elt F)) :
    (piece c (outHalf y) f : sProp 𝕄) = ((c : Thread nD τ).loc main_v1 ↦[(halfRect y).set]{fullShare} f) :=
  congrArg (fun S => ((c : Thread nD τ).loc main_v1 ↦[S]{fullShare} f : sProp 𝕄)) (View.set_slice_whole main_v1 (halfRect y))
theorem piece_giveC (f : cc0_scratch0.ty.Contents (Elt F)) :
    (piece c (giveC k) f : sProp 𝕄) = ((c : Thread nD τ).loc cc0_scratch0 ↦[(chunkRect k).set]{fullShare} f) :=
  congrArg (fun S => ((c : Thread nD τ).loc cc0_scratch0 ↦[S]{fullShare} f : sProp 𝕄)) (View.set_slice_whole cc0_scratch0 (chunkRect k))
theorem piece_sendC (f : cc0_scratch2.ty.Contents (Elt F)) :
    (piece c (sendC k) f : sProp 𝕄) = ((c : Thread nD τ).loc cc0_scratch2 ↦[(chunkRect k).set]{fullShare} f) :=
  congrArg (fun S => ((c : Thread nD τ).loc cc0_scratch2 ↦[S]{fullShare} f : sProp 𝕄)) (View.set_slice_whole cc0_scratch2 (chunkRect k))
theorem piece_keepM (f : cc0_scratch1.ty.Contents (Elt F)) :
    (piece c keepM f : sProp 𝕄) = ((c : Thread nD τ).loc cc0_scratch1 ↦{fullShare} f) :=
  congrArg (fun S => ((c : Thread nD τ).loc cc0_scratch1 ↦[S]{fullShare} f : sProp 𝕄)) (View.set_whole cc0_scratch1)
theorem piece_ownM (f : cc0_scratch3.ty.Contents (Elt F)) :
    (piece c ownM f : sProp 𝕄) = ((c : Thread nD τ).loc cc0_scratch3 ↦{fullShare} f) :=
  congrArg (fun S => ((c : Thread nD τ).loc cc0_scratch3 ↦[S]{fullShare} f : sProp 𝕄)) (View.set_whole cc0_scratch3)

end Named

/-- The argument in pieces. -/
theorem arg_cut (f : main_arg0.ty.Contents (Elt F)) :
    ((c : Thread nD τ).loc main_arg0 ↦{fullShare} f : sProp 𝕄)
      = iprop(piece c (argKeep (yOf c)) f ∗ four fun k => piece c (argGive (yOf c) k) f) := by
  simp only [piece_argGive, piece_argKeep]
  exact cut c main_arg0 (apart_arg (yOf c)) (cover_arg (yOf c)) f

/-- The result in pieces. -/
theorem out_cut (f : main_v1.ty.Contents (Elt F)) :
    ((c : Thread nD τ).loc main_v1 ↦{fullShare} f : sProp 𝕄)
      = iprop(piece c (outHalf (yOf c)) f ∗ four fun k => piece c (outLand (yOf (peer c)) k) f) := by
  simp only [piece_outLand, piece_outHalf]
  exact cut c main_v1 (apart_out _ _ (yOf_peer c)) (cover_out _ _ (yOf_peer c)) f

/-- What reads `X` is at any contents that read `X` there. -/
theorem piece_of_holds {sp : Space} {s : Shape} {e : EltTy} (M : Memref sig .tc sp s e) {X : s.Idx → Elt F e}
    (G : M.view.ty.Contents (Elt F)) (h : M.view.read (Elt F) G = X) : holds c M X ⊢ piece c M G := by
  unfold holds owns piece
  iintro ⟨%f, %hf, H⟩
  have hfG : ∀ i ∈ M.view.set, f i = G i := fun i hi => by
    obtain ⟨x, -, rfl⟩ := Finset.mem_map.mp hi
    exact View.eq_of_read_eq (congrFun (hf.trans h.symm) x)
  ihave H' := (Entails.of_eq (pointsTo_congr hfG)) $$ H
  iexact H'

/-! ## A device's memory at launch and at the end -/

/-- A device's arrays at launch are the memory its exchange starts with. -/
theorem mem_start (f : main_v1.ty.Contents (Elt F)) :
    iprop(((c : Thread nD τ).loc main_arg0 ↦{fullShare} argOf m c) ∗ ((c : Thread nD τ).loc main_v1 ↦{fullShare} f)
      ∗ (∃ f, (c : Thread nD τ).loc cc0_scratch0 ↦{fullShare} f) ∗ (∃ f, (c : Thread nD τ).loc cc0_scratch1 ↦{fullShare} f)
      ∗ (∃ f, (c : Thread nD τ).loc cc0_scratch2 ↦{fullShare} f) ∗ (∃ f, (c : Thread nD τ).loc cc0_scratch3 ↦{fullShare} f))
      ⊢ (iprop(four (chunkMem m c) ∗ restMem m c) : sProp 𝕄) := by
  rw [arg_cut, out_cut, ← four_eq (chunkMem m c)]
  unfold chunkMem restMem
  simp only [bigSep_sep', four_eq, piece_giveC, piece_sendC, piece_keepM, piece_ownM]
  iintro ⟨⟨Ak, A⟩, ⟨Oh, Ol⟩, G, K, S, W⟩
  ihave G' := (cut_some c cc0_scratch0 apart_chunk cover_chunk) $$ G
  ihave S' := (cut_some c cc0_scratch2 apart_chunk cover_chunk) $$ S
  isplitl [A G' S' Ol]
  · isplitl [A]; · iexact A
    isplitl [G']; · iexact G'
    isplitl [S']; · iexact S'
    iapply (four_some (fun k f => piece c (outLand (yOf (peer c)) k) f) f)
    iexact Ol
  isplitl [Ak]; · iexact Ak
  isplitl [K]; · iexact K
  isplitl [W]; · iexact W
  iexists f; iexact Oh

/-- The memory an exchange ends with is the device's arrays, the argument as it was and the result at any
    contents that read the two halves. -/
theorem mem_end (G : main_v1.ty.Contents (Elt F)) (hG : (outHalf (yOf c)).view.read (Elt F) G = k0_pay6 (keepV m c))
    (hG' : ∀ k, (outLand (yOf (peer c)) k).view.read (Elt F) G = k0_pay1 (giveV m (peer c) k)) :
    (iprop(four (chunkEnd m c) ∗ restEnd m c) : sProp 𝕄)
      ⊢ iprop(((c : Thread nD τ).loc main_arg0 ↦{fullShare} argOf m c) ∗ ((c : Thread nD τ).loc main_v1 ↦{fullShare} G)
      ∗ (∃ f, (c : Thread nD τ).loc cc0_scratch0 ↦{fullShare} f) ∗ (∃ f, (c : Thread nD τ).loc cc0_scratch1 ↦{fullShare} f)
      ∗ (∃ f, (c : Thread nD τ).loc cc0_scratch2 ↦{fullShare} f) ∗ (∃ f, (c : Thread nD τ).loc cc0_scratch3 ↦{fullShare} f)) := by
  rw [arg_cut, out_cut, ← four_eq (chunkEnd m c)]
  unfold chunkEnd restEnd
  simp only [bigSep_sep', piece_giveC, piece_sendC, piece_keepM, piece_ownM]
  iintro ⟨⟨A, S, T, R⟩, Ak, K, W, Oh⟩
  ihave R' := (show (bigSep Finset.univ fun k : Fin 4 => holds c (outLand (yOf (peer c)) k) (k0_pay1 (giveV m (peer c) k)))
      ⊢ (bigSep Finset.univ fun k : Fin 4 => piece c (outLand (yOf (peer c)) k) G : sProp 𝕄) from
    bigSep_mono fun k _ => piece_of_holds c (outLand (yOf (peer c)) k) G (hG' k)) $$ R
  ihave Oh' := (piece_of_holds c (outHalf (yOf c)) G hG) $$ Oh
  simp only [four_eq]
  isplitl [A Ak]
  · isplitl [Ak] <;> iassumption
  isplitl [R' Oh']
  · isplitl [Oh'] <;> iassumption
  isplitl [S]
  · iapply (join_some c cc0_scratch0 apart_chunk cover_chunk); iexact S
  isplitl [K]; · iexact K
  isplitl [T]
  · iapply (join_some c cc0_scratch2 apart_chunk cover_chunk); iexact T
  iexact W

end Cert.AllToAll
-- ==== Proof.Result.lean ====
/-
  What the exchange leaves in a device's result.

  Row `i` of the result comes from the device at place `i / 512` of the axis `y` on the line of this
  one: it is that device's row `i % 512`, of the columns of this device's place, rounded to `bf16`.
-/
module

public import proofs.«01_k».proof.Proof.Pieces

@[expose] public section

noncomputable section

namespace Cert.AllToAll

open Cert.KernelIdeal Cert.KernelIdeal.Gen
open Idealize.ShloMosaic Idealize.ShloMosaic.TcCoe

variable {F : FTy → Type} [FloatOps F]

variable (m : (ℓ : Loc nD τ sig) → Buf (Elt F) ℓ) (c : Dev nD)

/-- Rounding to `bf16`. -/
def narrow (x : Elt F .f32) : Elt F .bf16 := FloatOps.truncf .bf16 bitsLt_bf16_f32 x

theorem pay1_apply (v : Vec F S128x512 .f32) (x : S128x512.Idx) : k0_pay1 v x = narrow (v x) := by
  unfold k0_pay1; rw [shapeCast_self]; rfl
theorem pay6_apply (v : Vec F S512x512 .f32) (x : S512x512.Idx) : k0_pay6 v x = narrow (v x) := by
  unfold k0_pay6; rw [shapeCast_self]; rfl

/-- The device at place `b` of the axis `y`, on the line through `c`. -/
def onLine (b : Fin 2) : Dev nD := ⟨4 * (c.val / 4) + 2 * b.val + c.val % 2, by have : c.val < 8 := c.isLt; show _ < 8; omega⟩

theorem onLine_self : onLine c (yOf c) = c := by
  refine Fin.ext ?_
  show 4 * (c.val / 4) + 2 * (c.val / 2 % 2) + c.val % 2 = c.val
  omega
theorem onLine_peer : onLine c (yOf (peer c)) = peer c := by
  refine Fin.ext ?_
  show 4 * (c.val / 4) + 2 * (yOf (peer c)).val + c.val % 2 = 4 * (c.val / 4) + 2 * (1 - c.val / 2 % 2) + c.val % 2
  rw [yOf_peer]; rfl

/-- Row `i`, column `j` of an argument block. -/
def at2 (i : Fin 512) (j : Fin 1024) : S512x1024.Idx := fun a => match a with
  | ⟨0, _⟩ => i
  | ⟨1, _⟩ => j

theorem eq_at2 (x : S512x1024.Idx) (i : Fin 512) (j : Fin 1024) (h0 : (x 0).val = i.val) (h1 : (x 1).val = j.val) :
    x = at2 i j := by
  funext a
  match a with
  | ⟨0, _⟩ => exact Fin.ext h0
  | ⟨1, _⟩ => exact Fin.ext h1

/-- The contents of the result of device `c`. -/
def gather : main_v1.ty.Contents (Elt F) := fun i : S1024x512.Idx =>
  narrow (argOf m (onLine c ⟨(i 0).val / 512, by have : (i 0).val < 1024 := (i 0).isLt; omega⟩)
    (at2 ⟨(i 0).val % 512, by omega⟩ ⟨512 * (yOf c).val + (i 1).val, by have : (i 1).val < 512 := (i 1).isLt; omega⟩))

/-- An element of the result, from its row and column, its source device and the place there. -/
theorem gather_eq (i : S1024x512.Idx) (d : Dev nD) (b : Fin 2) (hd : onLine c b = d) (x : S512x1024.Idx)
    (h0 : (i 0).val = 512 * b.val + (x 0).val) (h1 : (x 1).val = 512 * (yOf c).val + (i 1).val) :
    gather m c i = narrow (argOf m d x) := by
  have hx : (x 0).val < 512 := (x 0).isLt
  subst hd
  unfold gather
  congr 2
  · exact congrArg (onLine c) (Fin.ext (show (i 0).val / 512 = b.val by omega))
  · exact (eq_at2 x _ _ (by show _ = (i 0).val % 512; omega) (by show _ = 512 * (yOf c).val + (i 1).val; omega)).symm

/-- The half that the device writes itself reads its kept columns, rounded; -/
theorem gather_half : (outHalf (yOf c)).view.read (Elt F) (gather m c) = k0_pay6 (keepV m c) := by
  funext x
  rw [pay6_apply]
  refine gather_eq m c ((halfRect (yOf c)).emb x) c (yOf c) (onLine_self c) ((keepRect (yOf c)).emb x) ?_ ?_ <;>
  · simp only [ValueKit.rect_emb_unit_val]
    simp

/-- a chunk that the peer writes reads the peer's chunk, rounded. -/
theorem gather_land (k : Fin 4) :
    (outLand (yOf (peer c)) k).view.read (Elt F) (gather m c) = k0_pay1 (giveV m (peer c) k) := by
  funext x
  rw [pay1_apply]
  refine gather_eq m c ((landRect (yOf (peer c)) k).emb x) (peer c) (yOf (peer c)) (onLine_peer c)
    ((giveRect (yOf (peer c)) k).emb x) ?_ ?_ <;>
  · simp only [ValueKit.rect_emb_unit_val]
    have h := yOf_peer c
    have h' : (yOf c).val < 2 := (yOf c).isLt
    simp
    omega

end Cert.AllToAll
-- ==== Proof.Dealing.lean ====
/-
  What the launch deals to the devices.

  The launch creates, for every semaphore of every device, its round, the right to pay it and the
  right to wait for it.  The right to pay an arrival, or a barrier, goes to the peer; the others stay.
  Of what the devices owe one another, every device gets the promise for its own semaphores.
-/
module

public import proofs.«01_k».proof.Proof.Result
public import Idealize.ShloMosaic.Lib.Pipeline.CollectiveSegs

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The jobs one by one -/

/-- Three things held together, grouped one way or the other. -/
theorem group (A B C : sProp 𝕄) : iprop((A ∗ B) ∗ C) = iprop(A ∗ B ∗ C) :=
  BI.equiv_iff.mp ⟨BI.sep_assoc, BI.sep_assoc'⟩

/-- The jobs whose semaphores are the kernel's own, in order. -/
def ownJob : Fin 14 → Job := ![.fetch c0, .fetch c1, .fetch c2, .fetch c3, .sent c0, .sent c1, .sent c2, .sent c3,
  .came c0, .came c1, .came c2, .came c3, .keep, .own]

/-- Something for every job: for every chunk, for the kept half, and for the barrier. -/
theorem jobs_eq (Φ : Job → sProp 𝕄) :
    bigSep Finset.univ Φ = iprop((four fun k => Φ (.fetch k)) ∗ (four fun k => Φ (.sent k)) ∗ (four fun k => Φ (.came k))
      ∗ Φ .keep ∗ Φ .own ∗ Φ .bar) := by
  rw [bigSep_univ_eq_bigSepL [.fetch c0, .fetch c1, .fetch c2, .fetch c3, .sent c0, .sent c1, .sent c2, .sent c3,
    .came c0, .came c1, .came c2, .came c3, .keep, .own, .bar] (by decide) (by decide)]
  unfold four
  simp only [bigSepL_cons_cons, bigSepL_singleton, group]
  rfl

/-! ## The semaphores -/

abbrev osem : Fin 14 → SemLoc sig := fun i => csem (ownJob i)

/-- The kernel's own semaphores are those of every job but the barrier, -/
theorem ownSemFacts : Pipeline.OwnSemFacts cfg0.spec osem := by decide +kernel

/-- a device's semaphores are those of its jobs. -/
theorem sems_eq : iprop(Pipeline.ownSems0 (Ix := Unit) (Name := ℕ) (U := UU) (Lvl := ℕ) (Val := Elt F) (τ := τ) osem c ∗ unscopedSems0 c)
    = (bigSep Finset.univ fun j : Job => semVal (cell c j) 0 : sProp 𝕄) := by
  rw [Pipeline.ownSems0_eq_of_list c osem [0, 1, 2, 3, 4, 5, 6, 7, 8, 9, 10, 11, 12, 13] (by decide) (by decide), jobs_eq]
  unfold unscopedSems0
  rw [bigSep_eq_bigSepL_of_eq [csem .bar] (by decide) (by decide)]
  unfold four
  have hs (A B : sProp 𝕄) : Idealize.SL.BI.sep A B = iprop(A ∗ B) := rfl
  simp only [bigSepL_cons_cons, bigSepL_singleton, hs, group]
  rfl

theorem cell_injective : Function.Injective (fun x : Dev nD × Job => cell x.1 x.2) := by
  rintro ⟨c, j⟩ ⟨c', j'⟩ h
  exact Prod.ext (congrArg (fun g : GSem nD τ sig => g.1.1) h) (csem_injective (congrArg Prod.snd h))

/-- All cells, and the one landing of each. -/
def cells : Finset (GSem nD τ sig) := Finset.univ.map ⟨fun x : Dev nD × Job => cell x.1 x.2, cell_injective⟩
def landings : Finset (GSem nD τ sig × ℕ × Unit) :=
  Finset.univ.map ⟨fun x : Dev nD × Job => (cell x.1 x.2, 0, ()), fun _ _ h => cell_injective (congrArg Prod.fst h)⟩

def u₀ : UU := (initOf (Pipeline.cells cfgs cellOf_inj) (Pipeline.launchToks cfgs cellOf_inj), initOf cells landings)

/-! ## The dealing -/

/-- What the launch creates for a device. -/
def dealt : sProp 𝕄 :=
  iprop((bigSep Finset.univ fun j : Job => roundState ER (Rd m) (cell c j) 0)
    ∗ bigSep Finset.univ fun j : Job => iprop(turn c j ∗ reached ER (cell c j) 0 ∗ token c j))

theorem fund : BI.own (ER (initOf cells landings)) ⊢ (|==> bigSep Finset.univ (dealt m) : sProp 𝕄) := by
  have hX (Φ : GSem nD τ sig → sProp 𝕄) : bigSep cells Φ = bigSep Finset.univ fun c : Dev nD => bigSep Finset.univ fun j : Job => Φ (cell c j) := by
    unfold cells; rw [bigSep_map, bigSep_univ_prod]; rfl
  have hT : bigSep landings (fun x => (dutyTok ER x.1 x.2.1 x.2.2 : sProp 𝕄))
      = bigSep Finset.univ fun c : Dev nD => bigSep Finset.univ fun j : Job => token c j := by
    unfold landings; rw [bigSep_map, bigSep_univ_prod]; rfl
  have hD : bigSep Finset.univ (dealt m) = iprop((bigSep Finset.univ fun c : Dev nD => bigSep Finset.univ fun j : Job => roundState ER (Rd m) (cell c j) 0)
      ∗ (bigSep Finset.univ fun c : Dev nD => bigSep Finset.univ fun j : Job => turn c j)
      ∗ (bigSep Finset.univ fun c : Dev nD => bigSep Finset.univ fun j : Job => reached ER (cell c j) 0)
      ∗ bigSep Finset.univ fun c : Dev nD => bigSep Finset.univ fun j : Job => token c j) := by
    unfold dealt; simp only [bigSep_sep']
  rw [hD, ← hX fun g => roundState ER (Rd m) g 0, ← hX fun g => atPos ER g 0 ∅ 0, ← hX fun g => reached ER g 0, ← hT]
  have hs (A B C D : sProp 𝕄) : iprop(A ∗ B ∗ C ∗ D) ⊢ iprop(A ∗ C ∗ B ∗ D) := by
    iintro ⟨HA, HB, HC, HD⟩
    isplitl [HA]; · iexact HA
    isplitl [HC]; · iexact HC
    isplitl [HB] <;> iassumption
  exact (Rounds.fund ER (Rd m) cells landings).trans (BI.bupd_mono (hs _ _ _ _))

/-- The landing that a device pays of a job: its own, or its peer's. -/
def paid (j : Job) : sProp 𝕄 := match j with
  | .came k => token (peer c) (.came k)
  | .bar => token (peer c) .bar
  | j => token c j

/-- Every device hands its peer the right to pay. -/
theorem hand_over : (bigSep Finset.univ fun c : Dev nD => bigSep Finset.univ fun j : Job => (token c j : sProp 𝕄))
    = bigSep Finset.univ fun c : Dev nD => bigSep Finset.univ fun j : Job => paid c j := by
  rw [bigSep_univ_comm, bigSep_univ_comm (fun (c : Dev nD) (j : Job) => (paid c j : sProp 𝕄))]
  refine bigSep_congr fun j _ => ?_
  cases j with
  | came k => exact bigSep_univ_equiv swap (fun c : Dev nD => (token c (.came k) : sProp 𝕄))
  | bar => exact bigSep_univ_equiv swap (fun c : Dev nD => (token c .bar : sProp 𝕄))
  | _ => rfl

/-- What a device holds of the protocol, the promises apart. -/
def hand : sProp 𝕄 := iprop(∃ K, records m K ∗ (bigSep Finset.univ fun j : Job => turn c j) ∗ bigSep Finset.univ fun j : Job => paid c j)

/-- A device's semaphores become invariants. -/
theorem establish :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun j : Job => iprop(∃ κ : ℕ, cellInv ER (Rd m) κ (cell c j)))
        ∗ bigSep Finset.univ fun j : Job => iprop(turn c j ∗ reached ER (cell c j) 0 ∗ token c j)) := by
  unfold dealt
  rw [← group, sems_eq]
  iintro ⟨Hv, Hst, Hrest⟩
  imod (show iprop((bigSep Finset.univ fun j : Job => semVal (cell c j) 0) ∗ bigSep Finset.univ fun j : Job => roundState ER (Rd m) (cell c j) 0)
      ⊢ (|={Set.univ}=> bigSep Finset.univ fun j : Job => iprop(∃ κ : ℕ, cellInv ER (Rd m) κ (cell c j)) : sProp 𝕄) from by
        rw [← bigSep_sep']
        exact (bigSep_mono fun j _ => (Rounds.body_intro ER (Rd m) (cell c j)).trans inv_alloc).trans (bigSep_fupd _ _)) $$ [Hv Hst] with Hinv
  · isplitl [Hv] <;> iassumption
  imodintro
  isplitl [Hinv]; · iexact Hinv
  iexact Hrest

/-- With every device's invariants at hand, every device gets the records of all of them. -/
theorem regroup :
    (bigSep Finset.univ fun c : Dev nD => iprop((bigSep Finset.univ fun j : Job => iprop(∃ κ : ℕ, cellInv ER (Rd m) κ (cell c j)))
        ∗ bigSep Finset.univ fun j : Job => iprop(turn c j ∗ reached ER (cell c j) 0 ∗ token c j)) : sProp 𝕄)
      ⊢ bigSep Finset.univ (hand m) := by
  simp only [bigSep_sep']
  rw [hand_over, ← bigSep_univ_prod (fun x : Dev nD × Job => iprop(∃ κ : ℕ, cellInv ER (Rd m) κ (cell x.1 x.2))),
    ← bigSep_univ_prod (fun x : Dev nD × Job => (reached ER (cell x.1 x.2) 0 : sProp 𝕄))]
  iintro ⟨HI, Ht, #HR, Hp⟩
  ihave HK := (BI.bigSep_exists_pi Finset.univ (fun (x : Dev nD × Job) (κ : ℕ) => (cellInv ER (Rd m) κ (cell x.1 x.2) : sProp 𝕄))) $$ HI
  icases HK with ⟨%K, #HI⟩
  ihave #Hrec := (show iprop((bigSep Finset.univ fun x : Dev nD × Job => cellInv ER (Rd m) (K x) (cell x.1 x.2))
      ∗ bigSep Finset.univ fun x : Dev nD × Job => reached ER (cell x.1 x.2) 0) ⊢ records m K from Entails.of_eq (by
        unfold records; rw [bigSep_sep'])) $$ [HI HR]
  · isplitl <;> iassumption
  ihave Hall := (BI.bigSep_of_persistent (Finset.univ : Finset (Dev nD)) (records m K)) $$ Hrec
  iapply (show iprop((bigSep (Finset.univ : Finset (Dev nD)) fun _ => records m K)
      ∗ (bigSep Finset.univ fun c : Dev nD => bigSep Finset.univ fun j : Job => turn c j)
      ∗ bigSep Finset.univ fun c : Dev nD => bigSep Finset.univ fun j : Job => paid c j) ⊢ bigSep Finset.univ (hand m) from by
    rw [← bigSep_sep', ← bigSep_sep']
    exact bigSep_mono fun c _ => exists_intro (Φ := fun K => iprop(records m K ∗ (bigSep Finset.univ fun j : Job => turn c j)
      ∗ bigSep Finset.univ fun j : Job => paid c j)) K)
  isplitl [Hall]; · iexact Hall
  isplitl [Ht] <;> iassumption

/-- The dealing, of all devices at once. -/
theorem deal : (bigSep Finset.univ fun c => iprop(Pipeline.ownSems0 (Ix := Unit) (Name := ℕ) (U := UU) (Lvl := ℕ) (Val := Elt F) (τ := τ) osem c
    ∗ unscopedSems0 c ∗ dealt m c) : sProp 𝕄) ⊢ |={Set.univ}=> bigSep Finset.univ (hand m) :=
  ((bigSep_mono fun c _ => establish m c).trans (bigSep_fupd _ _)).trans (BI.fupd_mono (regroup m))

/-! ## The promises -/

/-- Of the arrivals owed at launch, a device is promised its own; -/
theorem promised_came (l : List (Fin 4)) : (Pipeline.launchCred (fun d => rem d l) c : sProp 𝕄) ⊢ bigSepL l fun k => due c (.came k) := by
  induction l with
  | nil => exact Entails.of_eq (Pipeline.launchCred_zero c)
  | cons k l ih =>
    rw [show (fun d => rem d (k :: l)) = fun d => rem d l + tallyAt (cell (peer d) (.came k)) () (amt (.came k)) from rfl,
      Pipeline.launchCred_add, bigSepL_cons]
    show _ ⊢ iprop(due c (.came k) ∗ bigSepL l fun k => due c (.came k))
    iintro ⟨Hl, Hk⟩
    isplitl [Hk]
    · iapply (Pipeline.launchCred_tallyAt (csem (.came k)) peer peer peer_peer peer_peer () (amt (.came k)) c); iexact Hk
    iapply ih; iexact Hl

/-- and it is promised its barrier. -/
theorem promised : (Pipeline.launchCred O₀ c : sProp 𝕄) ⊢ iprop((four fun k => due c (.came k)) ∗ due c .bar) := by
  rw [show (O₀ : Dev nD → CellTallies nD τ sig Unit) = fun d => rem d chunks + tallyAt (cell (peer d) .bar) () 1 from rfl, Pipeline.launchCred_add]
  iintro ⟨Hl, Hb⟩
  isplitl [Hl]
  · iapply (show (bigSepL chunks fun k => due c (.came k)) ⊢ (four fun k => due c (.came k) : sProp 𝕄) from by
      simp only [bigSepL_cons_cons, bigSepL_singleton]; unfold four; exact Entails.refl _)
    iapply (promised_came c chunks); iexact Hl
  iapply (Pipeline.launchCred_tallyAt (csem .bar) peer peer peer_peer peer_peer () 1 c); iexact Hb

/-- A device's rights and promises are those that the exchange takes, chunk by chunk. -/
theorem ghost_start :
    iprop((bigSep Finset.univ fun j : Job => turn c j) ∗ (bigSep Finset.univ fun j : Job => paid c j)
        ∗ (four fun k => due c (.came k)) ∗ due c .bar)
      ⊢ (iprop(four (chunkGhost c) ∗ restGhost c) : sProp 𝕄) := by
  rw [jobs_eq, jobs_eq, ← four_eq (chunkGhost c)]
  unfold chunkGhost restGhost
  simp only [bigSep_sep', four_eq, paid]
  iintro ⟨⟨Uf, Us, Uc, Uk, Uo, Ub⟩, ⟨Tf, Ts, Tc, Tk, To, Tb⟩, Dc, Db⟩
  isplitl [Uf Us Uc Tf Ts Tc Dc]
  · isplitl [Tf]; · iexact Tf
    isplitl [Uf]; · iexact Uf
    isplitl [Ts]; · iexact Ts
    isplitl [Us]; · iexact Us
    isplitl [Tc]; · iexact Tc
    isplitl [Uc]; · iexact Uc
    iexact Dc
  isplitl [Tk]; · iexact Tk
  isplitl [Uk]; · iexact Uk
  isplitl [To]; · iexact To
  isplitl [Uo]; · iexact Uo
  isplitl [Tb]; · iexact Tb
  isplitl [Ub]; · iexact Ub
  iexact Db

/-- The semaphores that the exchange leaves at zero are all of the device's. -/
theorem sems_end : iprop(four (chunkZero c) ∗ restZero c ∗ semVal (cell c .bar) 0)
    ⊢ (bigSep Finset.univ fun j : Job => semVal (cell c j) 0 : sProp 𝕄) := by
  rw [jobs_eq, ← four_eq (chunkZero c)]
  unfold chunkZero restZero
  simp only [bigSep_sep', four_eq]
  iintro ⟨⟨Zf, Zs, Zc⟩, ⟨Zk, Zo⟩, Zb⟩
  isplitl [Zf]; · iexact Zf
  isplitl [Zs]; · iexact Zs
  isplitl [Zc]; · iexact Zc
  isplitl [Zk]; · iexact Zk
  isplitl [Zo] <;> iassumption

end Cert.AllToAll
-- ==== Proof.Launch.lean ====
/-
  The run of the whole kernel on all devices.
-/
module

public import proofs.«01_k».proof.Proof.Dealing

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- A device's argument and result, the result at contents `f`. -/
def arrays (f : main_v1.ty.Contents (Elt F)) : sProp 𝕄 :=
  iprop(((c : Thread nD τ).loc main_arg0 ↦{fullShare} argOf m c) ∗ ((c : Thread nD τ).loc main_v1 ↦{fullShare} f))

/-- What a device starts with, its scratch apart, -/
def start : sProp 𝕄 :=
  iprop((∃ K, records m K) ∗ levAts L lv ∗ four (chunkGhost c) ∗ restGhost c ∗ arrays m c (m ((c : Thread nD τ).loc main_v1)))

/-- before the kernel's body, -/
def before : sProp 𝕄 :=
  iprop((∃ K, records m K) ∗ levAts L lv ∗ four (chunkGhost c) ∗ restGhost c ∗ four (chunkMem m c) ∗ restMem m c)

/-- and after it. -/
def after : sProp 𝕄 :=
  iprop(four (chunkEnd m c) ∗ restEnd m c ∗ four (chunkZero c) ∗ restZero c ∗ semVal (cell c .bar) 0)

/-- The kernel has one grid point and no windows: its body runs from `before` to `after`. -/
def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => before m c
    | ⟨_ + 1, _⟩ => after m c
  q _ := fullShare
  owed t := match t with
    | ⟨0, _⟩ => O₀ c
    | ⟨_ + 1, _⟩ => 0

/-- The body, with what the device owes. -/
theorem body_run (t : Fin cfg0.N) :
    iprop(before m c ∗ owing c (O₀ c)) ⊢ run c (bodyAt0 t) fun _ => iprop(after m c ∗ owing c 0) := by
  rw [body_eq]
  unfold run before
  simp only [Prog.lift, Prog.bind_op, Prog.bind_ret, wp_deviceId]
  iintro ⟨⟨⟨%K, HR⟩, HL, Hg, Hg', Hm, Hm'⟩, HO⟩
  iapply (wp_exchange m K c fun _ => iprop(after m c ∗ owing c 0))
  isplitl [HR HL Hg Hg' Hm Hm' HO]
  · isplitl [HR]; · iexact HR
    isplitl [HL]; · iexact HL
    isplitl [Hg]; · iexact Hg
    isplitl [Hg']; · iexact Hg'
    isplitl [Hm]; · iexact Hm
    isplitl [Hm'] <;> iassumption
  iintro ⟨H1, H2, H3, H4, H5, HO⟩
  unfold after
  isplitr [HO]
  · isplitl [H1]; · iexact H1
    isplitl [H2]; · iexact H2
    isplitl [H3]; · iexact H3
    isplitl [H4] <;> iassumption
  iexact HO

/-- The same, as the launch asks for it. -/
theorem bodyObligation : BodyObligation (dats m 0 c) (defs₀ (F := F)) 𝒱₀ () Set.univ := fun t => by
  rw [fin_N0 t]
  refine BIBase.Entails.trans (Q := iprop(before m c ∗ owing c (O₀ c))) ?_ (BIBase.Entails.trans (Q := run c (bodyAt0 t0_0) fun _ => iprop(after m c ∗ owing c 0))
    (body_run m c t0_0) ?_)
  · rw [show (dats m 0 c).Φ t0_0.castSucc = before m c from rfl]
    iintro ⟨HΦ, HO, -⟩
    unfold Dat.owesAt Pipeline.owesWithin owing
    icases HO with ⟨%W, -, HO⟩
    isplitl [HΦ]; · iexact HΦ
    iexists W; iexact HO
  · refine wp_mono _ _ _ fun _ => ?_
    rw [show (dats m 0 c).Φ t0_0.succ = after m c from rfl]
    unfold Dat.owesAt Pipeline.owesWithin owing
    iintro ⟨HΦ, %W, HO⟩
    isplitl [HΦ]; · iexact HΦ
    isplitl [HO]
    · iexists W
      isplitr
      · ipureintro; exact fun _ _ => Or.inl trivial
      iexact HO
    rw [Finset.univ_eq_empty, bigSep_empty]
    iempintro

/-! ## The launch's conditions -/

theorem share_eq (w : Fin cfg0.W) : (dats m 0 c).share w = fullShare := w.elim0

theorem waits : (levAts L lv : sProp 𝕄) ⊢ Pipeline.cellsWaits cfgs (dats m) () 0 c :=
  Pipeline.cellsWaits_intro cfgs (dats m) () 0 c fun w _ _ => w.elim0

theorem start_intro :
    iprop(Pipeline.unscopedRestP Pipeline.Prefetch.none cfg0.spec c (fun b => m ((c : Thread nD τ).loc b)) ∗ levAts L lv
        ∗ Pipeline.launchCred O₀ c ∗ prngReg c (ρ c) ∗ hand m c)
      ⊢ |={Set.univ}=> iprop(start m c ∗ emp) := by
  rw [Pipeline.unscopedRestP_none, unscopedRest0_eq]
  unfold hand
  iintro ⟨⟨Ha, Ho⟩, HL, Hcr, -, ⟨%K, HR, Ht, Hp⟩⟩
  ihave Hd := (promised (F := F) c) $$ Hcr
  ihave Hg := (ghost_start (F := F) c) $$ [Ht Hp Hd]
  · isplitl [Ht]; · iexact Ht
    isplitl [Hp] <;> iassumption
  icases Hg with ⟨Hg, Hg'⟩
  imodintro
  isplitl
  · unfold start arrays
    isplitl [HR]; · iexists K; iexact HR
    isplitl [HL]; · iexact HL
    isplitl [Hg]; · iexact Hg
    isplitl [Hg']; · iexact Hg'
    isplitl [Ha]; · iexact Ha
    iexact Ho
  iempintro

theorem before_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold start arrays before
  iintro ⟨⟨HR, HL, Hg, Hg', Ha, Ho⟩, -, Hs⟩
  ihave Hm := (mem_start m c (m ((c : Thread nD τ).loc main_v1))) $$ [Ha Ho Hs]
  · isplitl [Ha]; · iexact Ha
    isplitl [Ho] <;> iassumption
  isplitl [HR]; · iexact HR
  isplitl [HL]; · iexact HL
  isplitl [Hg]; · iexact Hg
  isplitl [Hg'] <;> iassumption

theorem after_exit :
    (dats m 0 c).Φ (Fin.last cfg0.N)
      ⊢ iprop((unscopedSems0 c ∗ arrays m c (gather m c)) ∗ Pipeline.ownSems0 osem c ∗ Pipeline.scopedRest cfg0.spec c) := by
  rw [show (dats m 0 c).Φ (Fin.last cfg0.N) = after m c from rfl, scopedRest0_eq]
  unfold after arrays
  iintro ⟨He, He', Hz, Hz', Hb⟩
  ihave Hm := (mem_end m c (gather m c) (gather_half m c) (gather_land m c)) $$ [He He']
  · isplitl [He] <;> iassumption
  ihave Hs := ((sems_end (F := F) c).trans (Entails.of_eq (sems_eq c).symm)) $$ [Hz Hz' Hb]
  · isplitl [Hz]; · iexact Hz
    isplitl [Hz'] <;> iassumption
  icases Hs with ⟨Hs, Hu⟩
  icases Hm with ⟨Ha, Ho, Hm⟩
  isplitl [Hu Ha Ho]
  · isplitl [Hu]; · iexact Hu
    isplitl [Ha] <;> iassumption
  isplitl [Hs] <;> iassumption

/-- What a device's final memory is: the result exchanged, the argument as it was, and its semaphores that
    outlive the kernel at zero. -/
def Final (s : MemSt nD τ sig (Elt F)) : Prop :=
  s.mem ((c : Thread nD τ).loc main_v1) = gather m c
    ∧ s.mem ((c : Thread nD τ).loc main_arg0) = m ((c : Thread nD τ).loc main_arg0)
    ∧ ∀ sm : SemLoc sig, sm.isScoped .tc = false → s.sem ((c.tc : Thread nD τ), sm) = 0

theorem final_read (s' : Phys nD τ sig (Elt F)) :
    iprop((unscopedSems0 c ∗ arrays m c (gather m c)) ∗ emp ∗ SI s') ⊢ |={Set.univ}=> (iprop(⌜Final m c s'.mem⌝ ∗ SI s') : sProp 𝕄) := by
  unfold arrays
  iintro ⟨⟨Hu, Ha, Ho⟩, -, HSI⟩
  ihave %ha := (SI_pointsTo_agree (st := s')) $$ [HSI Ha]
  · isplitl [HSI] <;> iassumption
  ihave %ho := (SI_pointsTo_agree (st := s')) $$ [HSI Ho]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨funext fun i => ho i (Finset.mem_univ i), funext fun i => ha i (Finset.mem_univ i), hs⟩
  iexact HSI

set_option maxRecDepth 8000 in
/-- From any memory, all semaphores at zero, every fair run of the kernel on the eight devices ends; at the
    end every device's result is the exchanged one, its argument is as it was, and all semaphores are at zero. -/
theorem run_main : θ_run defs (onTc (τ := τ) (main (F := F))) ⟨m, fun _ => 0, ρ⟩
    (fun r => (∀ c : Dev nD, r.2.mem ((c.tc : Thread nD τ).loc main_v1) = gather m c
      ∧ r.2.mem ((c.tc : Thread nD τ).loc main_arg0) = m ((c.tc : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := bodyObligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := hand m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := deal m)
    (hA := fun _ _ => rfl) (hpf := fun _ k => k.elim0)
    (X := start m) (Y := fun c => iprop(unscopedSems0 c ∗ arrays m c (gather m c))) (Z := fun _ => iprop(emp))
    (hX := start_intro m ρ) (hin := before_intro m) (hout := after_exit m)
    (QY := fun c s => Final m c s)
    (hY := final_read m)
    (hQ := fun _ h hs => ⟨fun c => ⟨(h c).2.2.1, (h c).2.2.2.1⟩, sem_eq_zero hs fun c => (h c).2.2.2.2⟩)

end Cert.AllToAll
-- ==== Proof.Value.lean ====
/-
  The results of all devices together are the whole array, rounded.

  The argument is a whole array of 1024 rows cut along its rows by the axis `y`; the result is the
  same array, rounded to `bf16`, cut along its columns by that axis.
-/
module

public import proofs.«01_k».proof.Proof.Launch
public import Idealize.ShloMosaic.Lib.Layout

@[expose] public section

noncomputable section

namespace Cert.AllToAll

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- A whole array of 1024 rows and 1024 columns. -/
abbrev Whole : Shape := ⟨2, ![1024, 1024]⟩

/-- The rows of the whole array `x` that are the argument of device `c`: block `yOf c` of two. -/
def rowsOf (c : Dev nD) (x : Whole.Idx → Elt F .f32) : S512x1024.Idx → Elt F .f32 :=
  Layout.blockN ⟨2, ![512, 1024]⟩ ⟨2, ![1024, 1024]⟩ (Layout.meshBlock [2, 2, 2] ![[1], []] c) x

/-- The columns of the whole array `v` that are the result of device `c`: block `yOf c` of two. -/
def columnsOf (c : Dev nD) (v : Whole.Idx → Elt F .bf16) : S1024x512.Idx → Elt F .bf16 :=
  Layout.blockN ⟨2, ![1024, 512]⟩ ⟨2, ![1024, 1024]⟩ (Layout.meshBlock [2, 2, 2] ![[], [1]] c) v

/-- The coordinate of a device along a dimension cut by the axis `y` is its place there. -/
theorem place_eq (c : Dev nD) : Layout.meshLin [2, 2, 2] c.val [1] = (yOf c).val := by
  show c.val / 2 % 2 * 1 + 0 = c.val / 2 % 2
  omega

/-- The device at place `b` on the line through `c` is at place `b`. -/
theorem yOf_onLine (c : Dev nD) (b : Fin 2) : (yOf (onLine c b)).val = b.val := by
  have := b.isLt
  show (4 * (c.val / 4) + 2 * b.val + c.val % 2) / 2 % 2 = b.val
  omega

/-- Where the arguments are the rows of `x`, the result of each device is its columns of `x`, rounded. -/
theorem gather_whole (x : Whole.Idx → Elt F .f32) (h : ∀ c : Dev nD, argOf m c = rowsOf c x) (c : Dev nD) :
    gather m c = columnsOf c fun i => narrow (x i) := by
  funext i
  show narrow (argOf m _ _) = narrow (x _)
  rw [h]
  refine congrArg (fun j => narrow (x j)) (funext fun a => Fin.ext ?_)
  rw [Layout.TilesN.idx_val, Layout.TilesN.idx_val, Layout.meshBlock_val, Layout.meshBlock_val]
  match a with
  | ⟨0, _⟩ =>
    show Layout.meshLin [2, 2, 2] (onLine c _).val [1] * 512 + (i 0).val % 512 = 0 * 1024 + (i 0).val
    rw [place_eq, yOf_onLine]
    show (i 0).val / 512 * 512 + (i 0).val % 512 = 0 * 1024 + (i 0).val
    omega
  | ⟨1, _⟩ =>
    show 0 * 1024 + (512 * (yOf c).val + (i 1).val) = Layout.meshLin [2, 2, 2] c.val [1] * 512 + (i 1).val
    rw [place_eq]
    omega

/-- The run of the whole kernel from the rows of `x`: every device ends with its columns of `x`, rounded,
    and its argument as it was. -/
theorem run_whole (x : Whole.Idx → Elt F .f32) (h : ∀ c : Dev nD, argOf m c = rowsOf c x) :
    θ_run defs (onTc (τ := τ) (main (F := F))) ⟨m, fun _ => 0, ρ⟩ fun r => ∀ c : Dev nD,
      r.2.mem ((c.tc : Thread nD τ).loc main_v1) = columnsOf c (fun i => narrow (x i))
      ∧ r.2.mem ((c.tc : Thread nD τ).loc main_arg0) = m ((c.tc : Thread nD τ).loc main_arg0) :=
  (θ_run defs _ _).mono (fun _ hr c => ⟨(hr.1 c).1.trans (gather_whole m x h c), (hr.1 c).2⟩) (run_main m ρ)

end Cert.AllToAll
-- ==== Proof.lean ====
/-
  The proof of every claim made of the kernel: what it does on all devices is in `Proof/`, and is read
  here at exact numbers and at floats as words. The reference is one rounding of the whole array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs, leaves its argument alone and every counter at zero. -/
theorem frame_kernel : Cert.quiescent_Kernel := fun m ρ _ =>
  (θ_run Cert.KernelIdeal.defs _ _).mono (fun _ h => ⟨fun c => (h.1 c).2, h.2⟩) (Cert.AllToAll.run_main (F := Bits) m ρ)

/-- So it does at exact numbers. -/
theorem frame_kernel_ideal : Cert.quiescent_KernelIdeal := fun m ρ _ =>
  (θ_run Cert.KernelIdeal.defs _ _).mono (fun _ h => ⟨fun c => (h.1 c).2, h.2⟩) (Cert.AllToAll.run_main (F := Ideal) m ρ)

/-- The reference runs and leaves its argument alone; it has no counters. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- So it does at exact numbers. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At exact numbers the devices' results are the blocks of the reference's. -/
theorem algebraic : Cert.algebraic_KernelIdeal_ReferenceIdeal := fun m ρ m' ρ' _ h =>
  ⟨_, Cert.AllToAll.run_whole (F := Ideal) m ρ _ h,
    (θ_run Cert.ReferenceIdeal.defs _ _).mono (fun _ hr => hr 0) (Cert.ReferenceIdeal.Value.run (F := Ideal) m' ρ')⟩

/-- And bit for bit, at floats as words. -/
theorem bitexact : Cert.bitexact_Kernel_Reference := fun m ρ m' ρ' _ h =>
  ⟨_, Cert.AllToAll.run_whole (F := Bits) m ρ _ h,
    (θ_run Cert.Reference.defs _ _).mono (fun _ hr => hr 0) (Cert.Reference.Value.run (F := Bits) m' ρ')⟩

theorem claim : Cert.Claim :=
  ⟨Cert.Kernel.Gen.facts, Cert.KernelIdeal.Gen.facts, Cert.ReferenceIdeal.Gen.facts, Cert.Reference.Gen.facts,
    frame_kernel, frame_kernel_ideal, frame_reference_ideal, frame_reference, trivial, algebraic, bitexact⟩

end Cert.Proof

end
